-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def preserves_Kernel_KernelIdeal : Prop :=
  IdealRules.named_const.Statement Cert.KernelIdeal.κ "inv308" .f32 0x3B54C77B#32 ((308⁻¹ : ℝ) : EReal)
  ∧ IdealRules.named_const.Statement Cert.KernelIdeal.κ "neg" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v321) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x30x256 : Shape := ⟨3, ![256, 30, 256]⟩
abbrev S256x50x256 : Shape := ⟨3, ![256, 50, 256]⟩
abbrev S2x256 : Shape := ⟨2, ![2, 256]⟩
abbrev S3x4 : Shape := ⟨2, ![3, 4]⟩
abbrev S256x512 : Shape := ⟨2, ![256, 512]⟩
abbrev S512 : Shape := ⟨1, ![512]⟩
abbrev S512x512 : Shape := ⟨2, ![512, 512]⟩
abbrev S4x512 : Shape := ⟨2, ![4, 512]⟩
abbrev S4x128 : Shape := ⟨2, ![4, 128]⟩
abbrev S1024x128 : Shape := ⟨2, ![1024, 128]⟩
abbrev S128 : Shape := ⟨1, ![128]⟩
abbrev S512x4 : Shape := ⟨2, ![512, 4]⟩
abbrev S256x80x256 : Shape := ⟨3, ![256, 80, 256]⟩
abbrev S512x1024 : Shape := ⟨2, ![512, 1024]⟩
abbrev S1024 : Shape := ⟨1, ![1024]⟩
abbrev S1x1024 : Shape := ⟨2, ![1, 1024]⟩
abbrev S512x1 : Shape := ⟨2, ![512, 1]⟩
abbrev S1x512 : Shape := ⟨2, ![1, 512]⟩
abbrev S1x128 : Shape := ⟨2, ![1, 128]⟩
abbrev S256x128 : Shape := ⟨2, ![256, 128]⟩
abbrev S16x80x256 : Shape := ⟨3, ![16, 80, 256]⟩
abbrev S16x128 : Shape := ⟨2, ![16, 128]⟩
abbrev S1280x256 : Shape := ⟨2, ![1280, 256]⟩
abbrev S1280x1 : Shape := ⟨2, ![1280, 1]⟩
abbrev S1x256 : Shape := ⟨2, ![1, 256]⟩
abbrev S1280x512 : Shape := ⟨2, ![1280, 512]⟩
abbrev S1280 : Shape := ⟨1, ![1280]⟩
abbrev S1x4 : Shape := ⟨2, ![1, 4]⟩
abbrev S1280x1024 : Shape := ⟨2, ![1280, 1024]⟩
abbrev S3x512 : Shape := ⟨2, ![3, 512]⟩
abbrev S2x512 : Shape := ⟨2, ![2, 512]⟩
abbrev S1278x512 : Shape := ⟨2, ![1278, 512]⟩
abbrev S1280x4 : Shape := ⟨2, ![1280, 4]⟩
abbrev S1279x512 : Shape := ⟨2, ![1279, 512]⟩
abbrev S16x80x512 : Shape := ⟨3, ![16, 80, 512]⟩
abbrev S16x512 : Shape := ⟨2, ![16, 512]⟩
abbrev S16x1024 : Shape := ⟨2, ![16, 1024]⟩
abbrev S16 : Shape := ⟨1, ![16]⟩
abbrev S16x1 : Shape := ⟨2, ![16, 1]⟩

abbrev nBuf : Space → Nat
  | .hbm => 60
  | .vmem => 30
  | .smem => 0
  | _ => 0

abbrev bufTy : (tb : Table) → Fin (tcTables nBuf tb) → BufTy
  | .hbm, ⟨0, _⟩ => ⟨S256x30x256, .f32⟩
  | .hbm, ⟨1, _⟩ => ⟨S256x50x256, .f32⟩
  | .hbm, ⟨2, _⟩ => ⟨S2x256, .f32⟩
  | .hbm, ⟨3, _⟩ => ⟨S3x4, .f32⟩
  | .hbm, ⟨4, _⟩ => ⟨S256x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S4x512, .f32⟩
  | .hbm, ⟨13, _⟩ => ⟨S4x128, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S512x512, .f32⟩
  | .hbm, ⟨20, _⟩ => ⟨S512, .f32⟩
  | .hbm, ⟨21, _⟩ => ⟨S4x512, .f32⟩
  | .hbm, ⟨22, _⟩ => ⟨S4x128, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S1024x128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S512x4, .f32⟩
  | .hbm, ⟨31, _⟩ => ⟨S256x80x256, .f32⟩
  | .hbm, ⟨32, _⟩ => ⟨S512x1024, .f32⟩
  | .hbm, ⟨33, _⟩ => ⟨S512x1024, .f32⟩
  | .hbm, ⟨34, _⟩ => ⟨S1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S512, .f32⟩
  | .hbm, ⟨39, _⟩ => ⟨S512x1, .f32⟩
  | .hbm, ⟨40, _⟩ => ⟨S512x4, .f32⟩
  | .hbm, ⟨41, _⟩ => ⟨S512x4, .f32⟩
  | .hbm, ⟨42, _⟩ => ⟨S512, .f32⟩
  | .hbm, ⟨43, _⟩ => ⟨S512x1, .f32⟩
  | .hbm, ⟨44, _⟩ => ⟨S512x4, .f32⟩
  | .hbm, ⟨45, _⟩ => ⟨S512x4, .f32⟩
  | .hbm, ⟨46, _⟩ => ⟨S4x512, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S256x128, .f32⟩
  | .local _ .vmem, ⟨0, _⟩ => ⟨S16x80x256, .f32⟩
  | .local _ .vmem, ⟨1, _⟩ => ⟨S16x80x256, .f32⟩
  | .local _ .vmem, ⟨2, _⟩ => ⟨S2x256, .f32⟩
  | .local _ .vmem, ⟨3, _⟩ => ⟨S3x4, .f32⟩
  | .local _ .vmem, ⟨4, _⟩ => ⟨S256x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x1024, .f32⟩
  | .local _ .vmem, ⟨9, _⟩ => ⟨S1x1024, .f32⟩
  | .local _ .vmem, ⟨10, _⟩ => ⟨S4x512, .f32⟩
  | .local _ .vmem, ⟨11, _⟩ => ⟨S512x4, .f32⟩
  | .local _ .vmem, ⟨12, _⟩ => ⟨S4x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x1024, .f32⟩
  | .local _ .vmem, ⟨17, _⟩ => ⟨S1x1024, .f32⟩
  | .local _ .vmem, ⟨18, _⟩ => ⟨S4x512, .f32⟩
  | .local _ .vmem, ⟨19, _⟩ => ⟨S512x4, .f32⟩
  | .local _ .vmem, ⟨20, _⟩ => ⟨S4x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1024x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S16x128, .f32⟩
  | .local _ .vmem, ⟨29, _⟩ => ⟨S16x128, .f32⟩
  | _, _ => ⟨S256x30x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg27_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem27_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x80x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x4 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1024x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S16x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== KernelIdeal.lean ====
variable {F : FTy → Type} [FloatOps F] [Named F]
def κ : String → Option EReal := fun
  | "inv308" => some ((308⁻¹ : ℝ) : EReal)
  | "neg" => some ⊥
  | _ => none
-- ==== ReferenceIdeal.lean ====
abbrev S256x30x256 : Shape := ⟨3, ![256, 30, 256]⟩
abbrev S256x50x256 : Shape := ⟨3, ![256, 50, 256]⟩
abbrev S2x256 : Shape := ⟨2, ![2, 256]⟩
abbrev S3x4 : Shape := ⟨2, ![3, 4]⟩
abbrev S256x512 : Shape := ⟨2, ![256, 512]⟩
abbrev S512 : Shape := ⟨1, ![512]⟩
abbrev S512x512 : Shape := ⟨2, ![512, 512]⟩
abbrev S4x512 : Shape := ⟨2, ![4, 512]⟩
abbrev S4x128 : Shape := ⟨2, ![4, 128]⟩
abbrev S1024x128 : Shape := ⟨2, ![1024, 128]⟩
abbrev S128 : Shape := ⟨1, ![128]⟩
abbrev S308 : Shape := ⟨1, ![308]⟩
abbrev S388 : Shape := ⟨1, ![388]⟩
abbrev S1x256 : Shape := ⟨2, ![1, 256]⟩
abbrev S256 : Shape := ⟨1, ![256]⟩
abbrev S1x1x256 : Shape := ⟨3, ![1, 1, 256]⟩
abbrev S256x80x256 : Shape := ⟨3, ![256, 80, 256]⟩
abbrev S256x80x512 : Shape := ⟨3, ![256, 80, 512]⟩
abbrev S1x1x512 : Shape := ⟨3, ![1, 1, 512]⟩
abbrev S_ : Shape := ⟨0, ![]⟩
abbrev S256x80 : Shape := ⟨2, ![256, 80]⟩
abbrev S256x80x1 : Shape := ⟨3, ![256, 80, 1]⟩
abbrev S308x1 : Shape := ⟨2, ![308, 1]⟩
abbrev S308x4 : Shape := ⟨2, ![308, 4]⟩
abbrev S4 : Shape := ⟨1, ![4]⟩
abbrev S1x4 : Shape := ⟨2, ![1, 4]⟩
abbrev S1x1x1x4 : Shape := ⟨4, ![1, 1, 1, 4]⟩
abbrev S80x1x1x4 : Shape := ⟨4, ![80, 1, 1, 4]⟩
abbrev S80x4 : Shape := ⟨2, ![80, 4]⟩
abbrev S388x4 : Shape := ⟨2, ![388, 4]⟩
abbrev S256x80x4x128 : Shape := ⟨4, ![256, 80, 4, 128]⟩
abbrev S388x512 : Shape := ⟨2, ![388, 512]⟩
abbrev S388x4x128 : Shape := ⟨3, ![388, 4, 128]⟩
abbrev S388x1 : Shape := ⟨2, ![388, 1]⟩
abbrev S256x388x4x128 : Shape := ⟨4, ![256, 388, 4, 128]⟩
abbrev S1x388x4x128 : Shape := ⟨4, ![1, 388, 4, 128]⟩
abbrev S1x1x4x128 : Shape := ⟨4, ![1, 1, 4, 128]⟩
abbrev S256x388x4 : Shape := ⟨3, ![256, 388, 4]⟩
abbrev S1x388x1 : Shape := ⟨3, ![1, 388, 1]⟩
abbrev S80 : Shape := ⟨1, ![80]⟩
abbrev S80x1x1 : Shape := ⟨3, ![80, 1, 1]⟩
abbrev S80x388x1 : Shape := ⟨3, ![80, 388, 1]⟩
abbrev S256x1x388x4 : Shape := ⟨4, ![256, 1, 388, 4]⟩
abbrev S80x388x4 : Shape := ⟨3, ![80, 388, 4]⟩
abbrev S256x80x388x4 : Shape := ⟨4, ![256, 80, 388, 4]⟩
abbrev S256x80x4 : Shape := ⟨3, ![256, 80, 4]⟩
abbrev S256x388x4x1 : Shape := ⟨4, ![256, 388, 4, 1]⟩
abbrev S80x4x128 : Shape := ⟨3, ![80, 4, 128]⟩
abbrev S256x1024 : Shape := ⟨2, ![256, 1024]⟩
abbrev S256x128 : Shape := ⟨2, ![256, 128]⟩
abbrev S1x128 : Shape := ⟨2, ![1, 128]⟩
abbrev S256x1 : Shape := ⟨2, ![256, 1]⟩

abbrev nBuf : Space → Nat
  | .hbm => 446
  | .vmem => 0
  | .smem => 0
  | _ => 0

abbrev hbmTy0_0 (i : Nat) : BufTy := match i % 128 with
  | 0 => ⟨S256x30x256, .f32⟩
  | 1 => ⟨S256x50x256, .f32⟩
  | 2 => ⟨S2x256, .f32⟩
  | 3 => ⟨S3x4, .f32⟩
  | 4 => ⟨S256x512, .f32⟩
  | 5 => ⟨S512, .f32⟩
  | 6 => ⟨S512, .f32⟩
  | 7 => ⟨S512, .f32⟩
  | 8 => ⟨S512x512, .f32⟩
  | 9 => ⟨S512, .f32⟩
  | 10 => ⟨S512x512, .f32⟩
  | 11 => ⟨S512, .f32⟩
  | 12 => ⟨S4x512, .f32⟩
  | 13 => ⟨S4x128, .f32⟩
  | 14 => ⟨S512, .f32⟩
  | 15 => ⟨S512, .f32⟩
  | 16 => ⟨S512, .f32⟩
  | 17 => ⟨S512x512, .f32⟩
  | 18 => ⟨S512, .f32⟩
  | 19 => ⟨S512x512, .f32⟩
  | 20 => ⟨S512, .f32⟩
  | 21 => ⟨S4x512, .f32⟩
  | 22 => ⟨S4x128, .f32⟩
  | 23 => ⟨S512, .f32⟩
  | 24 => ⟨S512, .f32⟩
  | 25 => ⟨S512, .f32⟩
  | 26 => ⟨S1024x128, .f32⟩
  | 27 => ⟨S128, .f32⟩
  | 28 => ⟨S128, .f32⟩
  | 29 => ⟨S128, .f32⟩
  | 30 => ⟨S308, .i32⟩
  | 31 => ⟨S308, .i1⟩
  | 32 => ⟨S388, .i32⟩
  | 33 => ⟨S388, .i1⟩
  | 34 => ⟨S388, .i32⟩
  | 35 => ⟨S388, .i1⟩
  | 36 => ⟨S388, .i1⟩
  | 37 => ⟨S388, .i1⟩
  | 38 => ⟨S388, .i1⟩
  | 39 => ⟨S388, .i1⟩
  | 40 => ⟨S388, .i1⟩
  | 41 => ⟨S388, .i1⟩
  | 42 => ⟨S388, .i1⟩
  | 43 => ⟨S388, .i1⟩
  | 44 => ⟨S1x256, .f32⟩
  | 45 => ⟨S256, .f32⟩
  | 46 => ⟨S1x1x256, .f32⟩
  | 47 => ⟨S256x30x256, .f32⟩
  | 48 => ⟨S256x30x256, .f32⟩
  | 49 => ⟨S1x256, .f32⟩
  | 50 => ⟨S256, .f32⟩
  | 51 => ⟨S1x1x256, .f32⟩
  | 52 => ⟨S256x50x256, .f32⟩
  | 53 => ⟨S256x50x256, .f32⟩
  | 54 => ⟨S256x80x256, .f32⟩
  | 55 => ⟨S256x80x512, .f32⟩
  | 56 => ⟨S1x1x512, .f32⟩
  | 57 => ⟨S256x80x512, .f32⟩
  | 58 => ⟨S256x80x512, .f32⟩
  | 59 => ⟨S_, .f32⟩
  | 60 => ⟨S256x80, .f32⟩
  | 61 => ⟨S256x80x1, .f32⟩
  | 62 => ⟨S_, .f32⟩
  | 63 => ⟨S256x80x1, .f32⟩
  | 64 => ⟨S256x80x1, .f32⟩
  | 65 => ⟨S256x80x512, .f32⟩
  | 66 => ⟨S256x80x512, .f32⟩
  | 67 => ⟨S256x80x512, .f32⟩
  | 68 => ⟨S_, .f32⟩
  | 69 => ⟨S256x80, .f32⟩
  | 70 => ⟨S256x80x1, .f32⟩
  | 71 => ⟨S_, .f32⟩
  | 72 => ⟨S256x80x1, .f32⟩
  | 73 => ⟨S256x80x1, .f32⟩
  | 74 => ⟨S256x80x512, .f32⟩
  | 75 => ⟨S256x80x512, .f32⟩
  | 76 => ⟨S_, .f32⟩
  | 77 => ⟨S256x80x1, .f32⟩
  | 78 => ⟨S256x80x1, .f32⟩
  | 79 => ⟨S256x80x1, .f32⟩
  | 80 => ⟨S256x80x512, .f32⟩
  | 81 => ⟨S256x80x512, .f32⟩
  | 82 => ⟨S1x1x512, .f32⟩
  | 83 => ⟨S256x80x512, .f32⟩
  | 84 => ⟨S256x80x512, .f32⟩
  | 85 => ⟨S1x1x512, .f32⟩
  | 86 => ⟨S256x80x512, .f32⟩
  | 87 => ⟨S256x80x512, .f32⟩
  | 88 => ⟨S_, .f32⟩
  | 89 => ⟨S256x80x512, .f32⟩
  | 90 => ⟨S256x80x512, .f32⟩
  | 91 => ⟨S256x80x512, .f32⟩
  | 92 => ⟨S_, .f32⟩
  | 93 => ⟨S256x80x512, .f32⟩
  | 94 => ⟨S256x80x512, .f32⟩
  | 95 => ⟨S256x80x512, .f32⟩
  | 96 => ⟨S256x80x512, .f32⟩
  | 97 => ⟨S_, .i32⟩
  | 98 => ⟨S308, .i32⟩
  | 99 => ⟨S308, .i32⟩
  | 100 => ⟨S308, .i32⟩
  | 101 => ⟨S308x1, .i32⟩
  | 102 => ⟨S308x4, .f32⟩
  | 103 => ⟨S_, .f32⟩
  | 104 => ⟨S4, .f32⟩
  | 105 => ⟨S1x4, .f32⟩
  | 106 => ⟨S_, .f32⟩
  | 107 => ⟨S1x4, .f32⟩
  | 108 => ⟨S1x4, .f32⟩
  | 109 => ⟨S1x1x1x4, .f32⟩
  | 110 => ⟨S80x1x1x4, .f32⟩
  | 111 => ⟨S80x4, .f32⟩
  | 112 => ⟨S388x4, .f32⟩
  | 113 => ⟨S256x80x512, .f32⟩
  | 114 => ⟨S1x1x512, .f32⟩
  | 115 => ⟨S256x80x512, .f32⟩
  | 116 => ⟨S256x80x512, .f32⟩
  | 117 => ⟨S256x80x4x128, .f32⟩
  | 118 => ⟨S256x80x512, .f32⟩
  | 119 => ⟨S1x1x512, .f32⟩
  | 120 => ⟨S256x80x512, .f32⟩
  | 121 => ⟨S256x80x512, .f32⟩
  | 122 => ⟨S256x80x4x128, .f32⟩
  | 123 => ⟨S388x512, .f32⟩
  | 124 => ⟨S388x4x128, .f32⟩
  | 125 => ⟨S_, .i32⟩
  | 126 => ⟨S388, .i32⟩
  | 127 => ⟨S388, .i32⟩
  | _ => ⟨S256x30x256, .f32⟩

abbrev hbmTy0_1 (i : Nat) : BufTy := match i % 128 with
  | 0 => ⟨S388, .i32⟩
  | 1 => ⟨S388x1, .i32⟩
  | 2 => ⟨S256x388x4x128, .f32⟩
  | 3 => ⟨S_, .i32⟩
  | 4 => ⟨S388, .i32⟩
  | 5 => ⟨S388, .i32⟩
  | 6 => ⟨S388, .i32⟩
  | 7 => ⟨S388x1, .i32⟩
  | 8 => ⟨S256x388x4x128, .f32⟩
  | 9 => ⟨S256x388x4x128, .f32⟩
  | 10 => ⟨S1x388x4x128, .f32⟩
  | 11 => ⟨S256x388x4x128, .f32⟩
  | 12 => ⟨S256x388x4x128, .f32⟩
  | 13 => ⟨S_, .f32⟩
  | 14 => ⟨S256x388x4x128, .f32⟩
  | 15 => ⟨S256x388x4x128, .i1⟩
  | 16 => ⟨S_, .f32⟩
  | 17 => ⟨S256x388x4x128, .f32⟩
  | 18 => ⟨S256x388x4x128, .f32⟩
  | 19 => ⟨S256x388x4x128, .f32⟩
  | 20 => ⟨S1x1x4x128, .f32⟩
  | 21 => ⟨S256x388x4x128, .f32⟩
  | 22 => ⟨S256x388x4x128, .f32⟩
  | 23 => ⟨S_, .f32⟩
  | 24 => ⟨S256x388x4, .f32⟩
  | 25 => ⟨S1x388x1, .i32⟩
  | 26 => ⟨S80, .i32⟩
  | 27 => ⟨S80x1x1, .i32⟩
  | 28 => ⟨S80x388x1, .i32⟩
  | 29 => ⟨S80x388x1, .i32⟩
  | 30 => ⟨S80x388x1, .i1⟩
  | 31 => ⟨S256x1x388x4, .f32⟩
  | 32 => ⟨S_, .f32⟩
  | 33 => ⟨S_, .f32⟩
  | 34 => ⟨S80x388x4, .i1⟩
  | 35 => ⟨S256x80x388x4, .f32⟩
  | 36 => ⟨S80x388x4, .f32⟩
  | 37 => ⟨S256x80x388x4, .i1⟩
  | 38 => ⟨S256x80x388x4, .f32⟩
  | 39 => ⟨S256x80x388x4, .f32⟩
  | 40 => ⟨S_, .f32⟩
  | 41 => ⟨S256x80x4, .f32⟩
  | 42 => ⟨S256x80x4, .f32⟩
  | 43 => ⟨S_, .f32⟩
  | 44 => ⟨S256x80x4, .f32⟩
  | 45 => ⟨S256x80x4, .i1⟩
  | 46 => ⟨S_, .f32⟩
  | 47 => ⟨S_, .f32⟩
  | 48 => ⟨S80x4, .f32⟩
  | 49 => ⟨S256x80x4, .f32⟩
  | 50 => ⟨S256x80x4, .f32⟩
  | 51 => ⟨S_, .i32⟩
  | 52 => ⟨S388, .i32⟩
  | 53 => ⟨S388, .i32⟩
  | 54 => ⟨S388, .i32⟩
  | 55 => ⟨S388x1, .i32⟩
  | 56 => ⟨S256x388x4, .f32⟩
  | 57 => ⟨S256x388x4, .f32⟩
  | 58 => ⟨S256x388x4, .f32⟩
  | 59 => ⟨S_, .f32⟩
  | 60 => ⟨S80x4, .f32⟩
  | 61 => ⟨S388x1, .i32⟩
  | 62 => ⟨S256x80x4, .f32⟩
  | 63 => ⟨S256x80x4, .f32⟩
  | 64 => ⟨S_, .i32⟩
  | 65 => ⟨S388, .i32⟩
  | 66 => ⟨S388, .i32⟩
  | 67 => ⟨S388, .i32⟩
  | 68 => ⟨S388x1, .i32⟩
  | 69 => ⟨S256x388x4, .f32⟩
  | 70 => ⟨S_, .f32⟩
  | 71 => ⟨S256x388x4, .f32⟩
  | 72 => ⟨S256x388x4, .f32⟩
  | 73 => ⟨S256x388x4, .f32⟩
  | 74 => ⟨S256x388x4x1, .f32⟩
  | 75 => ⟨S_, .i32⟩
  | 76 => ⟨S388, .i32⟩
  | 77 => ⟨S388, .i32⟩
  | 78 => ⟨S388, .i32⟩
  | 79 => ⟨S388x1, .i32⟩
  | 80 => ⟨S256x388x4x128, .f32⟩
  | 81 => ⟨S256x388x4x128, .f32⟩
  | 82 => ⟨S256x388x4x128, .f32⟩
  | 83 => ⟨S_, .f32⟩
  | 84 => ⟨S80x4x128, .f32⟩
  | 85 => ⟨S388x1, .i32⟩
  | 86 => ⟨S256x80x4x128, .f32⟩
  | 87 => ⟨S256x80x4x128, .f32⟩
  | 88 => ⟨S256x80x512, .f32⟩
  | 89 => ⟨S1x1x512, .f32⟩
  | 90 => ⟨S256x80x512, .f32⟩
  | 91 => ⟨S256x80x512, .f32⟩
  | 92 => ⟨S256x80x512, .f32⟩
  | 93 => ⟨S_, .f32⟩
  | 94 => ⟨S256x80, .f32⟩
  | 95 => ⟨S256x80x1, .f32⟩
  | 96 => ⟨S_, .f32⟩
  | 97 => ⟨S256x80x1, .f32⟩
  | 98 => ⟨S256x80x1, .f32⟩
  | 99 => ⟨S256x80x512, .f32⟩
  | 100 => ⟨S256x80x512, .f32⟩
  | 101 => ⟨S256x80x512, .f32⟩
  | 102 => ⟨S_, .f32⟩
  | 103 => ⟨S256x80, .f32⟩
  | 104 => ⟨S256x80x1, .f32⟩
  | 105 => ⟨S_, .f32⟩
  | 106 => ⟨S256x80x1, .f32⟩
  | 107 => ⟨S256x80x1, .f32⟩
  | 108 => ⟨S256x80x512, .f32⟩
  | 109 => ⟨S256x80x512, .f32⟩
  | 110 => ⟨S_, .f32⟩
  | 111 => ⟨S256x80x1, .f32⟩
  | 112 => ⟨S256x80x1, .f32⟩
  | 113 => ⟨S256x80x1, .f32⟩
  | 114 => ⟨S256x80x512, .f32⟩
  | 115 => ⟨S256x80x512, .f32⟩
  | 116 => ⟨S1x1x512, .f32⟩
  | 117 => ⟨S256x80x512, .f32⟩
  | 118 => ⟨S256x80x512, .f32⟩
  | 119 => ⟨S1x1x512, .f32⟩
  | 120 => ⟨S256x80x512, .f32⟩
  | 121 => ⟨S256x80x512, .f32⟩
  | 122 => ⟨S_, .f32⟩
  | 123 => ⟨S256x80x512, .f32⟩
  | 124 => ⟨S256x80x512, .f32⟩
  | 125 => ⟨S256x80x512, .f32⟩
  | 126 => ⟨S_, .f32⟩
  | 127 => ⟨S256x80x512, .f32⟩
  | _ => ⟨S256x30x256, .f32⟩

abbrev hbmTy0_2 (i : Nat) : BufTy := match i % 128 with
  | 0 => ⟨S256x80x512, .f32⟩
  | 1 => ⟨S256x80x512, .f32⟩
  | 2 => ⟨S256x80x512, .f32⟩
  | 3 => ⟨S256x80x512, .f32⟩
  | 4 => ⟨S1x1x512, .f32⟩
  | 5 => ⟨S256x80x512, .f32⟩
  | 6 => ⟨S256x80x512, .f32⟩
  | 7 => ⟨S256x80x4x128, .f32⟩
  | 8 => ⟨S256x80x512, .f32⟩
  | 9 => ⟨S1x1x512, .f32⟩
  | 10 => ⟨S256x80x512, .f32⟩
  | 11 => ⟨S256x80x512, .f32⟩
  | 12 => ⟨S256x80x4x128, .f32⟩
  | 13 => ⟨S388x512, .f32⟩
  | 14 => ⟨S388x4x128, .f32⟩
  | 15 => ⟨S_, .i32⟩
  | 16 => ⟨S388, .i32⟩
  | 17 => ⟨S388, .i32⟩
  | 18 => ⟨S388, .i32⟩
  | 19 => ⟨S388x1, .i32⟩
  | 20 => ⟨S256x388x4x128, .f32⟩
  | 21 => ⟨S_, .i32⟩
  | 22 => ⟨S388, .i32⟩
  | 23 => ⟨S388, .i32⟩
  | 24 => ⟨S388, .i32⟩
  | 25 => ⟨S388x1, .i32⟩
  | 26 => ⟨S256x388x4x128, .f32⟩
  | 27 => ⟨S256x388x4x128, .f32⟩
  | 28 => ⟨S1x388x4x128, .f32⟩
  | 29 => ⟨S256x388x4x128, .f32⟩
  | 30 => ⟨S256x388x4x128, .f32⟩
  | 31 => ⟨S_, .f32⟩
  | 32 => ⟨S256x388x4x128, .f32⟩
  | 33 => ⟨S256x388x4x128, .i1⟩
  | 34 => ⟨S_, .f32⟩
  | 35 => ⟨S256x388x4x128, .f32⟩
  | 36 => ⟨S256x388x4x128, .f32⟩
  | 37 => ⟨S256x388x4x128, .f32⟩
  | 38 => ⟨S1x1x4x128, .f32⟩
  | 39 => ⟨S256x388x4x128, .f32⟩
  | 40 => ⟨S256x388x4x128, .f32⟩
  | 41 => ⟨S_, .f32⟩
  | 42 => ⟨S256x388x4, .f32⟩
  | 43 => ⟨S1x388x1, .i32⟩
  | 44 => ⟨S80, .i32⟩
  | 45 => ⟨S80x1x1, .i32⟩
  | 46 => ⟨S80x388x1, .i32⟩
  | 47 => ⟨S80x388x1, .i32⟩
  | 48 => ⟨S80x388x1, .i1⟩
  | 49 => ⟨S256x1x388x4, .f32⟩
  | 50 => ⟨S_, .f32⟩
  | 51 => ⟨S_, .f32⟩
  | 52 => ⟨S80x388x4, .i1⟩
  | 53 => ⟨S256x80x388x4, .f32⟩
  | 54 => ⟨S80x388x4, .f32⟩
  | 55 => ⟨S256x80x388x4, .i1⟩
  | 56 => ⟨S256x80x388x4, .f32⟩
  | 57 => ⟨S256x80x388x4, .f32⟩
  | 58 => ⟨S_, .f32⟩
  | 59 => ⟨S256x80x4, .f32⟩
  | 60 => ⟨S256x80x4, .f32⟩
  | 61 => ⟨S_, .f32⟩
  | 62 => ⟨S256x80x4, .f32⟩
  | 63 => ⟨S256x80x4, .i1⟩
  | 64 => ⟨S_, .f32⟩
  | 65 => ⟨S_, .f32⟩
  | 66 => ⟨S80x4, .f32⟩
  | 67 => ⟨S256x80x4, .f32⟩
  | 68 => ⟨S256x80x4, .f32⟩
  | 69 => ⟨S_, .i32⟩
  | 70 => ⟨S388, .i32⟩
  | 71 => ⟨S388, .i32⟩
  | 72 => ⟨S388, .i32⟩
  | 73 => ⟨S388x1, .i32⟩
  | 74 => ⟨S256x388x4, .f32⟩
  | 75 => ⟨S256x388x4, .f32⟩
  | 76 => ⟨S256x388x4, .f32⟩
  | 77 => ⟨S_, .f32⟩
  | 78 => ⟨S80x4, .f32⟩
  | 79 => ⟨S388x1, .i32⟩
  | 80 => ⟨S256x80x4, .f32⟩
  | 81 => ⟨S256x80x4, .f32⟩
  | 82 => ⟨S_, .i32⟩
  | 83 => ⟨S388, .i32⟩
  | 84 => ⟨S388, .i32⟩
  | 85 => ⟨S388, .i32⟩
  | 86 => ⟨S388x1, .i32⟩
  | 87 => ⟨S256x388x4, .f32⟩
  | 88 => ⟨S_, .f32⟩
  | 89 => ⟨S256x388x4, .f32⟩
  | 90 => ⟨S256x388x4, .f32⟩
  | 91 => ⟨S256x388x4, .f32⟩
  | 92 => ⟨S256x388x4x1, .f32⟩
  | 93 => ⟨S_, .i32⟩
  | 94 => ⟨S388, .i32⟩
  | 95 => ⟨S388, .i32⟩
  | 96 => ⟨S388, .i32⟩
  | 97 => ⟨S388x1, .i32⟩
  | 98 => ⟨S256x388x4x128, .f32⟩
  | 99 => ⟨S256x388x4x128, .f32⟩
  | 100 => ⟨S256x388x4x128, .f32⟩
  | 101 => ⟨S_, .f32⟩
  | 102 => ⟨S80x4x128, .f32⟩
  | 103 => ⟨S388x1, .i32⟩
  | 104 => ⟨S256x80x4x128, .f32⟩
  | 105 => ⟨S256x80x4x128, .f32⟩
  | 106 => ⟨S256x80x512, .f32⟩
  | 107 => ⟨S1x1x512, .f32⟩
  | 108 => ⟨S256x80x512, .f32⟩
  | 109 => ⟨S256x80x512, .f32⟩
  | 110 => ⟨S256x80x512, .f32⟩
  | 111 => ⟨S_, .f32⟩
  | 112 => ⟨S256x80, .f32⟩
  | 113 => ⟨S256x80x1, .f32⟩
  | 114 => ⟨S_, .f32⟩
  | 115 => ⟨S256x80x1, .f32⟩
  | 116 => ⟨S256x80x1, .f32⟩
  | 117 => ⟨S256x80x512, .f32⟩
  | 118 => ⟨S256x80x512, .f32⟩
  | 119 => ⟨S256x80x512, .f32⟩
  | 120 => ⟨S_, .f32⟩
  | 121 => ⟨S256x80, .f32⟩
  | 122 => ⟨S256x80x1, .f32⟩
  | 123 => ⟨S_, .f32⟩
  | 124 => ⟨S256x80x1, .f32⟩
  | 125 => ⟨S256x80x1, .f32⟩
  | 126 => ⟨S256x80x512, .f32⟩
  | 127 => ⟨S256x80x512, .f32⟩
  | _ => ⟨S256x30x256, .f32⟩

abbrev hbmTy0_3 (i : Nat) : BufTy := match i % 128 with
  | 0 => ⟨S_, .f32⟩
  | 1 => ⟨S256x80x1, .f32⟩
  | 2 => ⟨S256x80x1, .f32⟩
  | 3 => ⟨S256x80x1, .f32⟩
  | 4 => ⟨S256x80x512, .f32⟩
  | 5 => ⟨S256x80x512, .f32⟩
  | 6 => ⟨S1x1x512, .f32⟩
  | 7 => ⟨S256x80x512, .f32⟩
  | 8 => ⟨S256x80x512, .f32⟩
  | 9 => ⟨S1x1x512, .f32⟩
  | 10 => ⟨S256x80x512, .f32⟩
  | 11 => ⟨S256x80x512, .f32⟩
  | 12 => ⟨S_, .f32⟩
  | 13 => ⟨S256x512, .f32⟩
  | 14 => ⟨S_, .f32⟩
  | 15 => ⟨S256x512, .f32⟩
  | 16 => ⟨S256x512, .f32⟩
  | 17 => ⟨S_, .f32⟩
  | 18 => ⟨S256x512, .f32⟩
  | 19 => ⟨S256x1024, .f32⟩
  | 20 => ⟨S256x128, .f32⟩
  | 21 => ⟨S1x128, .f32⟩
  | 22 => ⟨S256x128, .f32⟩
  | 23 => ⟨S256x128, .f32⟩
  | 24 => ⟨S_, .f32⟩
  | 25 => ⟨S256, .f32⟩
  | 26 => ⟨S256x1, .f32⟩
  | 27 => ⟨S_, .f32⟩
  | 28 => ⟨S256x1, .f32⟩
  | 29 => ⟨S256x1, .f32⟩
  | 30 => ⟨S256x128, .f32⟩
  | 31 => ⟨S256x128, .f32⟩
  | 32 => ⟨S256x128, .f32⟩
  | 33 => ⟨S_, .f32⟩
  | 34 => ⟨S256, .f32⟩
  | 35 => ⟨S256x1, .f32⟩
  | 36 => ⟨S_, .f32⟩
  | 37 => ⟨S256x1, .f32⟩
  | 38 => ⟨S256x1, .f32⟩
  | 39 => ⟨S256x128, .f32⟩
  | 40 => ⟨S256x128, .f32⟩
  | 41 => ⟨S_, .f32⟩
  | 42 => ⟨S256x1, .f32⟩
  | 43 => ⟨S256x1, .f32⟩
  | 44 => ⟨S256x1, .f32⟩
  | 45 => ⟨S256x128, .f32⟩
  | 46 => ⟨S256x128, .f32⟩
  | 47 => ⟨S1x128, .f32⟩
  | 48 => ⟨S256x128, .f32⟩
  | 49 => ⟨S256x128, .f32⟩
  | 50 => ⟨S1x128, .f32⟩
  | 51 => ⟨S256x128, .f32⟩
  | 52 => ⟨S256x128, .f32⟩
  | 53 => ⟨S_, .f32⟩
  | 54 => ⟨S256x128, .f32⟩
  | 55 => ⟨S256x128, .f32⟩
  | 56 => ⟨S256x128, .f32⟩
  | 57 => ⟨S_, .f32⟩
  | 58 => ⟨S256x128, .f32⟩
  | 59 => ⟨S256x128, .f32⟩
  | 60 => ⟨S256x128, .f32⟩
  | 61 => ⟨S256x128, .f32⟩
  | _ => ⟨S256x30x256, .f32⟩

abbrev hbmTy (i : Nat) : BufTy := match i / 128 with
  | 0 => hbmTy0_0 i
  | 1 => hbmTy0_1 i
  | 2 => hbmTy0_2 i
  | 3 => hbmTy0_3 i
  | _ => ⟨S256x30x256, .f32⟩

abbrev bufTy : (tb : Table) → Fin (tcTables nBuf tb) → BufTy
  | .hbm, ⟨i, _⟩ => hbmTy i
  | _, _ => ⟨S256x30x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_c : Ref sig .tc := ⟨.hbm, 30, rfl⟩
abbrev main_c_0 : Ref sig .tc := ⟨.hbm, 31, rfl⟩
abbrev main_c_1 : Ref sig .tc := ⟨.hbm, 32, rfl⟩
abbrev main_c_2 : Ref sig .tc := ⟨.hbm, 33, rfl⟩
abbrev main_c_3 : Ref sig .tc := ⟨.hbm, 34, rfl⟩
abbrev main_c_4 : Ref sig .tc := ⟨.hbm, 35, rfl⟩
abbrev main_c_5 : Ref sig .tc := ⟨.hbm, 36, rfl⟩
abbrev main_c_6 : Ref sig .tc := ⟨.hbm, 37, rfl⟩
abbrev main_c_7 : Ref sig .tc := ⟨.hbm, 38, rfl⟩
abbrev main_c_8 : Ref sig .tc := ⟨.hbm, 39, rfl⟩
abbrev main_c_9 : Ref sig .tc := ⟨.hbm, 40, rfl⟩
abbrev main_c_10 : Ref sig .tc := ⟨.hbm, 41, rfl⟩
abbrev main_c_11 : Ref sig .tc := ⟨.hbm, 42, rfl⟩
abbrev main_c_12 : Ref sig .tc := ⟨.hbm, 43, rfl⟩
abbrev main_v0 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_cst : Ref sig .tc := ⟨.hbm, 59, rfl⟩
abbrev main_v15 : Ref sig .tc := ⟨.hbm, 60, rfl⟩
abbrev main_v16 : Ref sig .tc := ⟨.hbm, 61, rfl⟩
abbrev main_cst_13 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_cst_14 : Ref sig .tc := ⟨.hbm, 68, rfl⟩
abbrev main_v22 : Ref sig .tc := ⟨.hbm, 69, rfl⟩
abbrev main_v23 : Ref sig .tc := ⟨.hbm, 70, rfl⟩
abbrev main_cst_15 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_cst_16 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_cst_17 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst_18 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_c_19 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_20 : Ref sig .tc := ⟨.hbm, 103, rfl⟩
abbrev main_v51 : Ref sig .tc := ⟨.hbm, 104, rfl⟩
abbrev main_v52 : Ref sig .tc := ⟨.hbm, 105, rfl⟩
abbrev main_cst_21 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_c_22 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_c_23 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_24 : Ref sig .tc := ⟨.hbm, 141, rfl⟩
abbrev main_v85 : Ref sig .tc := ⟨.hbm, 142, rfl⟩
abbrev main_v86 : Ref sig .tc := ⟨.hbm, 143, rfl⟩
abbrev main_cst_25 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_cst_26 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_cst_27 : Ref sig .tc := ⟨.hbm, 160, rfl⟩
abbrev main_call1_v0 : Ref sig .tc := ⟨.hbm, 161, rfl⟩
abbrev main_call1_v1 : Ref sig .tc := ⟨.hbm, 162, rfl⟩
abbrev main_call1_v2 : Ref sig .tc := ⟨.hbm, 163, rfl⟩
abbrev main_call1_v3 : Ref sig .tc := ⟨.hbm, 164, rfl⟩
abbrev main_call1_v4 : Ref sig .tc := ⟨.hbm, 165, rfl⟩
abbrev main_call1_v5 : Ref sig .tc := ⟨.hbm, 166, rfl⟩
abbrev main_v101 : Ref sig .tc := ⟨.hbm, 167, rfl⟩
abbrev main_cst_28 : Ref sig .tc := ⟨.hbm, 168, rfl⟩
abbrev main_v102 : Ref sig .tc := ⟨.hbm, 169, rfl⟩
abbrev main_v103 : Ref sig .tc := ⟨.hbm, 170, rfl⟩
abbrev main_cst_29 : Ref sig .tc := ⟨.hbm, 171, rfl⟩
abbrev main_v104 : Ref sig .tc := ⟨.hbm, 172, rfl⟩
abbrev main_v105 : Ref sig .tc := ⟨.hbm, 173, rfl⟩
abbrev main_cst_30 : Ref sig .tc := ⟨.hbm, 174, rfl⟩
abbrev main_call2_v0 : Ref sig .tc := ⟨.hbm, 175, rfl⟩
abbrev main_call2_v1 : Ref sig .tc := ⟨.hbm, 176, rfl⟩
abbrev main_call2_v2 : Ref sig .tc := ⟨.hbm, 177, rfl⟩
abbrev main_v106 : Ref sig .tc := ⟨.hbm, 178, rfl⟩
abbrev main_c_31 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_cst_32 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_c_33 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_cst_34 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_c_35 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_cst_36 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_cst_37 : Ref sig .tc := ⟨.hbm, 221, rfl⟩
abbrev main_v143 : Ref sig .tc := ⟨.hbm, 222, rfl⟩
abbrev main_v144 : Ref sig .tc := ⟨.hbm, 223, rfl⟩
abbrev main_cst_38 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_cst_39 : Ref sig .tc := ⟨.hbm, 230, rfl⟩
abbrev main_v150 : Ref sig .tc := ⟨.hbm, 231, rfl⟩
abbrev main_v151 : Ref sig .tc := ⟨.hbm, 232, rfl⟩
abbrev main_cst_40 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_cst_41 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_cst_42 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_cst_43 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_c_44 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_c_45 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_cst_46 : Ref sig .tc := ⟨.hbm, 287, rfl⟩
abbrev main_v200 : Ref sig .tc := ⟨.hbm, 288, rfl⟩
abbrev main_v201 : Ref sig .tc := ⟨.hbm, 289, rfl⟩
abbrev main_cst_47 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_cst_48 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_cst_49 : Ref sig .tc := ⟨.hbm, 306, rfl⟩
abbrev main_call4_v0 : Ref sig .tc := ⟨.hbm, 307, rfl⟩
abbrev main_call4_v1 : Ref sig .tc := ⟨.hbm, 308, rfl⟩
abbrev main_call4_v2 : Ref sig .tc := ⟨.hbm, 309, rfl⟩
abbrev main_call4_v3 : Ref sig .tc := ⟨.hbm, 310, rfl⟩
abbrev main_call4_v4 : Ref sig .tc := ⟨.hbm, 311, rfl⟩
abbrev main_call4_v5 : Ref sig .tc := ⟨.hbm, 312, rfl⟩
abbrev main_v216 : Ref sig .tc := ⟨.hbm, 313, rfl⟩
abbrev main_cst_50 : Ref sig .tc := ⟨.hbm, 314, rfl⟩
abbrev main_v217 : Ref sig .tc := ⟨.hbm, 315, rfl⟩
abbrev main_v218 : Ref sig .tc := ⟨.hbm, 316, rfl⟩
abbrev main_cst_51 : Ref sig .tc := ⟨.hbm, 317, rfl⟩
abbrev main_v219 : Ref sig .tc := ⟨.hbm, 318, rfl⟩
abbrev main_v220 : Ref sig .tc := ⟨.hbm, 319, rfl⟩
abbrev main_cst_52 : Ref sig .tc := ⟨.hbm, 320, rfl⟩
abbrev main_call5_v0 : Ref sig .tc := ⟨.hbm, 321, rfl⟩
abbrev main_call5_v1 : Ref sig .tc := ⟨.hbm, 322, rfl⟩
abbrev main_call5_v2 : Ref sig .tc := ⟨.hbm, 323, rfl⟩
abbrev main_v221 : Ref sig .tc := ⟨.hbm, 324, rfl⟩
abbrev main_c_53 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_cst_54 : Ref sig .tc := ⟨.hbm, 333, rfl⟩
abbrev main_v229 : Ref sig .tc := ⟨.hbm, 334, rfl⟩
abbrev main_v230 : Ref sig .tc := ⟨.hbm, 335, rfl⟩
abbrev main_v231 : Ref sig .tc := ⟨.hbm, 336, rfl⟩
abbrev main_v232 : Ref sig .tc := ⟨.hbm, 337, rfl⟩
abbrev main_c_55 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_cst_56 : Ref sig .tc := ⟨.hbm, 344, rfl⟩
abbrev main_v238 : Ref sig .tc := ⟨.hbm, 345, rfl⟩
abbrev main_v239 : Ref sig .tc := ⟨.hbm, 346, rfl⟩
abbrev main_v240 : Ref sig .tc := ⟨.hbm, 347, rfl⟩
abbrev main_v241 : Ref sig .tc := ⟨.hbm, 348, rfl⟩
abbrev main_c_57 : Ref sig .tc := ⟨.hbm, 349, rfl⟩
abbrev main_v242 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_cst_58 : Ref sig .tc := ⟨.hbm, 357, rfl⟩
abbrev main_v249 : Ref sig .tc := ⟨.hbm, 358, rfl⟩
abbrev main_v250 : Ref sig .tc := ⟨.hbm, 359, rfl⟩
abbrev main_v251 : Ref sig .tc := ⟨.hbm, 360, rfl⟩
abbrev main_v252 : Ref sig .tc := ⟨.hbm, 361, rfl⟩
abbrev main_v253 : Ref sig .tc := ⟨.hbm, 362, rfl⟩
abbrev main_v254 : Ref sig .tc := ⟨.hbm, 363, rfl⟩
abbrev main_v255 : Ref sig .tc := ⟨.hbm, 364, rfl⟩
abbrev main_v256 : Ref sig .tc := ⟨.hbm, 365, rfl⟩
abbrev main_v257 : Ref sig .tc := ⟨.hbm, 366, rfl⟩
abbrev main_cst_59 : Ref sig .tc := ⟨.hbm, 367, rfl⟩
abbrev main_v258 : Ref sig .tc := ⟨.hbm, 368, rfl⟩
abbrev main_v259 : Ref sig .tc := ⟨.hbm, 369, rfl⟩
abbrev main_cst_60 : Ref sig .tc := ⟨.hbm, 370, rfl⟩
abbrev main_v260 : Ref sig .tc := ⟨.hbm, 371, rfl⟩
abbrev main_v261 : Ref sig .tc := ⟨.hbm, 372, rfl⟩
abbrev main_v262 : Ref sig .tc := ⟨.hbm, 373, rfl⟩
abbrev main_v263 : Ref sig .tc := ⟨.hbm, 374, rfl⟩
abbrev main_v264 : Ref sig .tc := ⟨.hbm, 375, rfl⟩
abbrev main_cst_61 : Ref sig .tc := ⟨.hbm, 376, rfl⟩
abbrev main_v265 : Ref sig .tc := ⟨.hbm, 377, rfl⟩
abbrev main_v266 : Ref sig .tc := ⟨.hbm, 378, rfl⟩
abbrev main_cst_62 : Ref sig .tc := ⟨.hbm, 379, rfl⟩
abbrev main_v267 : Ref sig .tc := ⟨.hbm, 380, rfl⟩
abbrev main_v268 : Ref sig .tc := ⟨.hbm, 381, rfl⟩
abbrev main_v269 : Ref sig .tc := ⟨.hbm, 382, rfl⟩
abbrev main_v270 : Ref sig .tc := ⟨.hbm, 383, rfl⟩
abbrev main_cst_63 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩
abbrev main_v279 : Ref sig .tc := ⟨.hbm, 393, rfl⟩
abbrev main_v280 : Ref sig .tc := ⟨.hbm, 394, rfl⟩
abbrev main_v281 : Ref sig .tc := ⟨.hbm, 395, rfl⟩
abbrev main_cst_64 : Ref sig .tc := ⟨.hbm, 396, rfl⟩
abbrev main_v282 : Ref sig .tc := ⟨.hbm, 397, rfl⟩
abbrev main_cst_65 : Ref sig .tc := ⟨.hbm, 398, rfl⟩
abbrev main_v283 : Ref sig .tc := ⟨.hbm, 399, rfl⟩
abbrev main_v284 : Ref sig .tc := ⟨.hbm, 400, rfl⟩
abbrev main_cst_66 : Ref sig .tc := ⟨.hbm, 401, rfl⟩
abbrev main_v285 : Ref sig .tc := ⟨.hbm, 402, rfl⟩
abbrev main_v286 : Ref sig .tc := ⟨.hbm, 403, rfl⟩
abbrev main_v287 : Ref sig .tc := ⟨.hbm, 404, rfl⟩
abbrev main_v288 : Ref sig .tc := ⟨.hbm, 405, rfl⟩
abbrev main_v289 : Ref sig .tc := ⟨.hbm, 406, rfl⟩
abbrev main_v290 : Ref sig .tc := ⟨.hbm, 407, rfl⟩
abbrev main_cst_67 : Ref sig .tc := ⟨.hbm, 408, rfl⟩
abbrev main_v291 : Ref sig .tc := ⟨.hbm, 409, rfl⟩
abbrev main_v292 : Ref sig .tc := ⟨.hbm, 410, rfl⟩
abbrev main_cst_68 : Ref sig .tc := ⟨.hbm, 411, rfl⟩
abbrev main_v293 : Ref sig .tc := ⟨.hbm, 412, rfl⟩
abbrev main_v294 : Ref sig .tc := ⟨.hbm, 413, rfl⟩
abbrev main_v295 : Ref sig .tc := ⟨.hbm, 414, rfl⟩
abbrev main_v296 : Ref sig .tc := ⟨.hbm, 415, rfl⟩
abbrev main_v297 : Ref sig .tc := ⟨.hbm, 416, rfl⟩
abbrev main_cst_69 : Ref sig .tc := ⟨.hbm, 417, rfl⟩
abbrev main_v298 : Ref sig .tc := ⟨.hbm, 418, rfl⟩
abbrev main_v299 : Ref sig .tc := ⟨.hbm, 419, rfl⟩
abbrev main_cst_70 : Ref sig .tc := ⟨.hbm, 420, rfl⟩
abbrev main_v300 : Ref sig .tc := ⟨.hbm, 421, rfl⟩
abbrev main_v301 : Ref sig .tc := ⟨.hbm, 422, rfl⟩
abbrev main_v302 : Ref sig .tc := ⟨.hbm, 423, rfl⟩
abbrev main_v303 : Ref sig .tc := ⟨.hbm, 424, rfl⟩
abbrev main_cst_71 : Ref sig .tc := ⟨.hbm, 425, rfl⟩
abbrev main_v304 : Ref sig .tc := ⟨.hbm, 426, rfl⟩
abbrev main_v305 : Ref sig .tc := ⟨.hbm, 427, rfl⟩
abbrev main_v306 : Ref sig .tc := ⟨.hbm, 428, rfl⟩
abbrev main_v307 : Ref sig .tc := ⟨.hbm, 429, rfl⟩
abbrev main_v308 : Ref sig .tc := ⟨.hbm, 430, rfl⟩
abbrev main_v309 : Ref sig .tc := ⟨.hbm, 431, rfl⟩
abbrev main_v310 : Ref sig .tc := ⟨.hbm, 432, rfl⟩
abbrev main_v311 : Ref sig .tc := ⟨.hbm, 433, rfl⟩
abbrev main_v312 : Ref sig .tc := ⟨.hbm, 434, rfl⟩
abbrev main_v313 : Ref sig .tc := ⟨.hbm, 435, rfl⟩
abbrev main_v314 : Ref sig .tc := ⟨.hbm, 436, rfl⟩
abbrev main_cst_72 : Ref sig .tc := ⟨.hbm, 437, rfl⟩
abbrev main_v315 : Ref sig .tc := ⟨.hbm, 438, rfl⟩
abbrev main_v316 : Ref sig .tc := ⟨.hbm, 439, rfl⟩
abbrev main_v317 : Ref sig .tc := ⟨.hbm, 440, rfl⟩
abbrev main_cst_73 : Ref sig .tc := ⟨.hbm, 441, rfl⟩
abbrev main_v318 : Ref sig .tc := ⟨.hbm, 442, rfl⟩
abbrev main_v319 : Ref sig .tc := ⟨.hbm, 443, rfl⟩
abbrev main_v320 : Ref sig .tc := ⟨.hbm, 444, rfl⟩
abbrev main_v321 : Ref sig .tc := ⟨.hbm, 445, rfl⟩

abbrev nD : Nat := 1
abbrev τ : Topo := Topo.v7x

variable {F : FTy → Type} [FloatOps F]
-- ==== Proof.KernelIdealBody.lean ====
/- What the body of `KernelIdeal` leaves in its output block, as a function of the blocks it reads: the values the body binds,
   named after the printed program's, over one bundle of the input blocks. -/
module

public import proofs.«01_k».proof.Proof.Gen.KernelIdeal.Frame
public import proofs.«01_k».proof.Proof.Gen.KernelIdeal.Skeleton

@[expose] public section

set_option maxRecDepth 16384

noncomputable section

namespace Cert.KernelIdeal.Body

open Idealize.ShloMosaic Idealize.ShloMosaic.TcCoe Cert.KernelIdeal.Gen
open Idealize.ShloMosaic.Rounds
open Idealize.ShloMosaic.Pipeline (Dat Cfg Window BodyObligation cellOf)

variable {F : FTy → Type} [FloatOps F] [Named F]

/-- The blocks the body reads, one per input window. -/
structure Ins (F : FTy → Type) where
  x0 : Vec F S16x80x256 .f32
  x1 : Vec F S2x256 .f32
  x2 : Vec F S3x4 .f32
  x3 : Vec F S256x512 .f32
  x4 : Vec F S1x512 .f32
  x5 : Vec F S1x512 .f32
  x6 : Vec F S1x512 .f32
  x7 : Vec F S512x1024 .f32
  x8 : Vec F S1x1024 .f32
  x9 : Vec F S4x512 .f32
  x10 : Vec F S512x4 .f32
  x11 : Vec F S4x512 .f32
  x12 : Vec F S1x512 .f32
  x13 : Vec F S1x512 .f32
  x14 : Vec F S1x512 .f32
  x15 : Vec F S512x1024 .f32
  x16 : Vec F S1x1024 .f32
  x17 : Vec F S4x512 .f32
  x18 : Vec F S512x4 .f32
  x19 : Vec F S4x512 .f32
  x20 : Vec F S1x512 .f32
  x21 : Vec F S1x512 .f32
  x22 : Vec F S1x512 .f32
  x23 : Vec F S1024x128 .f32
  x24 : Vec F S1x128 .f32
  x25 : Vec F S1x128 .f32
  x26 : Vec F S1x128 .f32

abbrev r0_0 : Rect S16x80x256 := Rect.unit (s := S16x80x256) ![0, 0, 0] S16x80x256.size inb_S16x80x256_S16x80x256_0_0_0
abbrev r0_1 : Rect S2x256 := Rect.unit (s := S2x256) ![0, 0] S1x256.size inb_S2x256_S1x256_0_0
abbrev r0_2 : Rect S2x256 := Rect.unit (s := S2x256) ![1, 0] S1x256.size inb_S2x256_S1x256_1_0
abbrev r0_3 : Rect S256x512 := Rect.unit (s := S256x512) ![0, 0] S256x512.size inb_S256x512_S256x512_0_0
abbrev r0_4 : Rect S1x512 := Rect.unit (s := S1x512) ![0, 0] S1x512.size inb_S1x512_S1x512_0_0
abbrev r0_5 : Rect S3x4 := Rect.unit (s := S3x4) ![0, 0] S1x4.size inb_S3x4_S1x4_0_0
abbrev r0_6 : Rect S3x4 := Rect.unit (s := S3x4) ![2, 0] S1x4.size inb_S3x4_S1x4_2_0
abbrev r0_7 : Rect S512x1024 := Rect.unit (s := S512x1024) ![0, 0] S512x1024.size inb_S512x1024_S512x1024_0_0
abbrev r0_8 : Rect S1x1024 := Rect.unit (s := S1x1024) ![0, 0] S1x1024.size inb_S1x1024_S1x1024_0_0
abbrev r0_9 : Rect S4x512 := Rect.unit (s := S4x512) ![0, 0] S4x512.size inb_S4x512_S4x512_0_0
abbrev r0_10 : Rect S512x4 := Rect.unit (s := S512x4) ![0, 0] S512x4.size inb_S512x4_S512x4_0_0
abbrev r0_11 : Rect S1024x128 := Rect.unit (s := S1024x128) ![0, 0] S1024x128.size inb_S1024x128_S1024x128_0_0
abbrev r0_12 : Rect S1x128 := Rect.unit (s := S1x128) ![0, 0] S1x128.size inb_S1x128_S1x128_0_0
abbrev r0_13 : Rect S16x128 := Rect.unit (s := S16x128) ![0, 0] S16x128.size inb_S16x128_S16x128_0_0

def v19 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : IVec S1280x1 32 :=
  k0_pay2
def v71 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay4 (k0_pay3 (View.ld x0 r0_0) (View.ld x1 r0_1) (View.ld x1 r0_2) (View.ld x3 r0_3) (View.ld x4 r0_4)) (View.ld x5 r0_4) (View.ld x6 r0_4)
def v80 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1x4 .f32 :=
  k0_pay5 (View.ld x2 r0_5) (View.ld x2 r0_6)
def v81 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S3x4 .f32 :=
  k0_pay6 (View.ld x2 r0_5) (View.ld x2 r0_6) (v80 x0 x1 x2 x3 x4 x5 x6 x7 x8 x9 x10 x11 x12 x13 x14 x15 x16 x17 x18 x19 x20 x21 x22 x23 x24 x25 x26)
def v89 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay8 (v71 x0 x1 x2 x3 x4 x5 x6 x7 x8 x9 x10 x11 x12 x13 x14 x15 x16 x17 x18 x19 x20 x21 x22 x23 x24 x25 x26) (View.ld x7 r0_7) (View.ld x8 r0_8)
def v90 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay9 (v71 x0 x1 x2 x3 x4 x5 x6 x7 x8 x9 x10 x11 x12 x13 x14 x15 x16 x17 x18 x19 x20 x21 x22 x23 x24 x25 x26) (View.ld x7 r0_7) (View.ld x8 r0_8)
def v92 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S3x512 .f32 :=
  k0_pay10 (View.ld x2 r0_5) (View.ld x2 r0_6) (v80 x0 x1 x2 x3 x4 x5 x6 x7 x8 x9 x10 x11 x12 x13 x14 x15 x16 x17 x18 x19 x20 x21 x22 x23 x24 x25 x26) (View.ld x9 r0_9)
def v94 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S512x4 .f32 :=
  k0_pay11 (View.ld x10 r0_10)
def v96 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S4x512 .f32 :=
  k0_pay12 (View.ld x11 r0_9)
def v98 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : IVec S1280x1 1 :=
  k0_pay13 (v19 x0 x1 x2 x3 x4 x5 x6 x7 x8 x9 x10 x11 x12 x13 x14 x15 x16 x17 x18 x19 x20 x21 x22 x23 x24 x25 x26)
def v101 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay14 (v71 x0 x1 x2 x3 x4 x5 x6 x7 x8 x9 x10 x11 x12 x13 x14 x15 x16 x17 x18 x19 x20 x21 x22 x23 x24 x25 x26) (View.ld x7 r0_7) (View.ld x8 r0_8)
def v127 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay19 (v98 x0 x1 x2 x3 x4 x5 x6 x7 x8 x9 x10 x11 x12 x13 x14 x15 x16 x17 x18 x19 x20 x21 x22 x23 x24 x25 x26) (k0_pay15 (v71 x0 x1 x2 x3 x4 x5 x6 x7 x8 x9 x10 x11 x12 x13 x14 x15 x16 x17 x18 x19 x20 x21 x22 x23 x24 x25 x26) (View.ld x2 r0_5) (View.ld x2 r0_6) (v80 x0 x1 x2 x3 x4 x5 x6 x7 x8 x9 x10 x11 x12 x13 x14 x15 x16 x17 x18 x19 x20 x21 x22 x23 x24 x25 x26) (View.ld x7 r0_7) (View.ld x8 r0_8) (View.ld x9 r0_9) (View.ld x10 r0_10)) (k0_pay17 (v19 x0 x1 x2 x3 x4 x5 x6 x7 x8 x9 x10 x11 x12 x13 x14 x15 x16 x17 x18 x19 x20 x21 x22 x23 x24 x25 x26)) (k0_pay18 (v19 x0 x1 x2 x3 x4 x5 x6 x7 x8 x9 x10 x11 x12 x13 x14 x15 x16 x17 x18 x19 x20 x21 x22 x23 x24 x25 x26))
def v130 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay20 (v89 x0 x1 x2 x3 x4 x5 x6 x7 x8 x9 x10 x11 x12 x13 x14 x15 x16 x17 x18 x19 x20 x21 x22 x23 x24 x25 x26)
def v156 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay21 (v19 x0 x1 x2 x3 x4 x5 x6 x7 x8 x9 x10 x11 x12 x13 x14 x15 x16 x17 x18 x19 x20 x21 x22 x23 x24 x25 x26) (v89 x0 x1 x2 x3 x4 x5 x6 x7 x8 x9 x10 x11 x12 x13 x14 x15 x16 x17 x18 x19 x20 x21 x22 x23 x24 x25 x26) (v90 x0 x1 x2 x3 x4 x5 x6 x7 x8 x9 x10 x11 x12 x13 x14 x15 x16 x17 x18 x19 x20 x21 x22 x23 x24 x25 x26) (v92 x0 x1 x2 x3 x4 x5 x6 x7 x8 x9 x10 x11 x12 x13 x14 x15 x16 x17 x18 x19 x20 x21 x22 x23 x24 x25 x26) (v94 x0 x1 x2 x3 x4 x5 x6 x7 x8 x9 x10 x11 x12 x13 x14 x15 x16 x17 x18 x19 x20 x21 x22 x23 x24 x25 x26) (v98 x0 x1 x2 x3 x4 x5 x6 x7 x8 x9 x10 x11 x12 x13 x14 x15 x16 x17 x18 x19 x20 x21 x22 x23 x24 x25 x26)
def v182 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay23 (v19 x0 x1 x2 x3 x4 x5 x6 x7 x8 x9 x10 x11 x12 x13 x14 x15 x16 x17 x18 x19 x20 x21 x22 x23 x24 x25 x26) (v98 x0 x1 x2 x3 x4 x5 x6 x7 x8 x9 x10 x11 x12 x13 x14 x15 x16 x17 x18 x19 x20 x21 x22 x23 x24 x25 x26) (k0_pay22 (v89 x0 x1 x2 x3 x4 x5 x6 x7 x8 x9 x10 x11 x12 x13 x14 x15 x16 x17 x18 x19 x20 x21 x22 x23 x24 x25 x26) (v90 x0 x1 x2 x3 x4 x5 x6 x7 x8 x9 x10 x11 x12 x13 x14 x15 x16 x17 x18 x19 x20 x21 x22 x23 x24 x25 x26) (v92 x0 x1 x2 x3 x4 x5 x6 x7 x8 x9 x10 x11 x12 x13 x14 x15 x16 x17 x18 x19 x20 x21 x22 x23 x24 x25 x26) (v94 x0 x1 x2 x3 x4 x5 x6 x7 x8 x9 x10 x11 x12 x13 x14 x15 x16 x17 x18 x19 x20 x21 x22 x23 x24 x25 x26))
def v185 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay24 (v89 x0 x1 x2 x3 x4 x5 x6 x7 x8 x9 x10 x11 x12 x13 x14 x15 x16 x17 x18 x19 x20 x21 x22 x23 x24 x25 x26)
def v211 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay25 (v19 x0 x1 x2 x3 x4 x5 x6 x7 x8 x9 x10 x11 x12 x13 x14 x15 x16 x17 x18 x19 x20 x21 x22 x23 x24 x25 x26) (v89 x0 x1 x2 x3 x4 x5 x6 x7 x8 x9 x10 x11 x12 x13 x14 x15 x16 x17 x18 x19 x20 x21 x22 x23 x24 x25 x26) (v90 x0 x1 x2 x3 x4 x5 x6 x7 x8 x9 x10 x11 x12 x13 x14 x15 x16 x17 x18 x19 x20 x21 x22 x23 x24 x25 x26) (v92 x0 x1 x2 x3 x4 x5 x6 x7 x8 x9 x10 x11 x12 x13 x14 x15 x16 x17 x18 x19 x20 x21 x22 x23 x24 x25 x26) (v94 x0 x1 x2 x3 x4 x5 x6 x7 x8 x9 x10 x11 x12 x13 x14 x15 x16 x17 x18 x19 x20 x21 x22 x23 x24 x25 x26) (v98 x0 x1 x2 x3 x4 x5 x6 x7 x8 x9 x10 x11 x12 x13 x14 x15 x16 x17 x18 x19 x20 x21 x22 x23 x24 x25 x26)
def v214 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay26 (v89 x0 x1 x2 x3 x4 x5 x6 x7 x8 x9 x10 x11 x12 x13 x14 x15 x16 x17 x18 x19 x20 x21 x22 x23 x24 x25 x26)
def v246 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay29 (v19 x0 x1 x2 x3 x4 x5 x6 x7 x8 x9 x10 x11 x12 x13 x14 x15 x16 x17 x18 x19 x20 x21 x22 x23 x24 x25 x26) (v89 x0 x1 x2 x3 x4 x5 x6 x7 x8 x9 x10 x11 x12 x13 x14 x15 x16 x17 x18 x19 x20 x21 x22 x23 x24 x25 x26) (v90 x0 x1 x2 x3 x4 x5 x6 x7 x8 x9 x10 x11 x12 x13 x14 x15 x16 x17 x18 x19 x20 x21 x22 x23 x24 x25 x26) (v92 x0 x1 x2 x3 x4 x5 x6 x7 x8 x9 x10 x11 x12 x13 x14 x15 x16 x17 x18 x19 x20 x21 x22 x23 x24 x25 x26) (v94 x0 x1 x2 x3 x4 x5 x6 x7 x8 x9 x10 x11 x12 x13 x14 x15 x16 x17 x18 x19 x20 x21 x22 x23 x24 x25 x26) (v98 x0 x1 x2 x3 x4 x5 x6 x7 x8 x9 x10 x11 x12 x13 x14 x15 x16 x17 x18 x19 x20 x21 x22 x23 x24 x25 x26) (v127 x0 x1 x2 x3 x4 x5 x6 x7 x8 x9 x10 x11 x12 x13 x14 x15 x16 x17 x18 x19 x20 x21 x22 x23 x24 x25 x26) (v156 x0 x1 x2 x3 x4 x5 x6 x7 x8 x9 x10 x11 x12 x13 x14 x15 x16 x17 x18 x19 x20 x21 x22 x23 x24 x25 x26) (v182 x0 x1 x2 x3 x4 x5 x6 x7 x8 x9 x10 x11 x12 x13 x14 x15 x16 x17 x18 x19 x20 x21 x22 x23 x24 x25 x26) (v211 x0 x1 x2 x3 x4 x5 x6 x7 x8 x9 x10 x11 x12 x13 x14 x15 x16 x17 x18 x19 x20 x21 x22 x23 x24 x25 x26)
def v248 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay30 (v19 x0 x1 x2 x3 x4 x5 x6 x7 x8 x9 x10 x11 x12 x13 x14 x15 x16 x17 x18 x19 x20 x21 x22 x23 x24 x25 x26) (v89 x0 x1 x2 x3 x4 x5 x6 x7 x8 x9 x10 x11 x12 x13 x14 x15 x16 x17 x18 x19 x20 x21 x22 x23 x24 x25 x26) (v90 x0 x1 x2 x3 x4 x5 x6 x7 x8 x9 x10 x11 x12 x13 x14 x15 x16 x17 x18 x19 x20 x21 x22 x23 x24 x25 x26) (v92 x0 x1 x2 x3 x4 x5 x6 x7 x8 x9 x10 x11 x12 x13 x14 x15 x16 x17 x18 x19 x20 x21 x22 x23 x24 x25 x26) (v94 x0 x1 x2 x3 x4 x5 x6 x7 x8 x9 x10 x11 x12 x13 x14 x15 x16 x17 x18 x19 x20 x21 x22 x23 x24 x25 x26) (v98 x0 x1 x2 x3 x4 x5 x6 x7 x8 x9 x10 x11 x12 x13 x14 x15 x16 x17 x18 x19 x20 x21 x22 x23 x24 x25 x26) (v127 x0 x1 x2 x3 x4 x5 x6 x7 x8 x9 x10 x11 x12 x13 x14 x15 x16 x17 x18 x19 x20 x21 x22 x23 x24 x25 x26) (v156 x0 x1 x2 x3 x4 x5 x6 x7 x8 x9 x10 x11 x12 x13 x14 x15 x16 x17 x18 x19 x20 x21 x22 x23 x24 x25 x26) (v182 x0 x1 x2 x3 x4 x5 x6 x7 x8 x9 x10 x11 x12 x13 x14 x15 x16 x17 x18 x19 x20 x21 x22 x23 x24 x25 x26) (v211 x0 x1 x2 x3 x4 x5 x6 x7 x8 x9 x10 x11 x12 x13 x14 x15 x16 x17 x18 x19 x20 x21 x22 x23 x24 x25 x26)
def v250 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay31 (v19 x0 x1 x2 x3 x4 x5 x6 x7 x8 x9 x10 x11 x12 x13 x14 x15 x16 x17 x18 x19 x20 x21 x22 x23 x24 x25 x26) (v89 x0 x1 x2 x3 x4 x5 x6 x7 x8 x9 x10 x11 x12 x13 x14 x15 x16 x17 x18 x19 x20 x21 x22 x23 x24 x25 x26) (v90 x0 x1 x2 x3 x4 x5 x6 x7 x8 x9 x10 x11 x12 x13 x14 x15 x16 x17 x18 x19 x20 x21 x22 x23 x24 x25 x26) (v92 x0 x1 x2 x3 x4 x5 x6 x7 x8 x9 x10 x11 x12 x13 x14 x15 x16 x17 x18 x19 x20 x21 x22 x23 x24 x25 x26) (v94 x0 x1 x2 x3 x4 x5 x6 x7 x8 x9 x10 x11 x12 x13 x14 x15 x16 x17 x18 x19 x20 x21 x22 x23 x24 x25 x26) (v98 x0 x1 x2 x3 x4 x5 x6 x7 x8 x9 x10 x11 x12 x13 x14 x15 x16 x17 x18 x19 x20 x21 x22 x23 x24 x25 x26) (v127 x0 x1 x2 x3 x4 x5 x6 x7 x8 x9 x10 x11 x12 x13 x14 x15 x16 x17 x18 x19 x20 x21 x22 x23 x24 x25 x26) (v156 x0 x1 x2 x3 x4 x5 x6 x7 x8 x9 x10 x11 x12 x13 x14 x15 x16 x17 x18 x19 x20 x21 x22 x23 x24 x25 x26) (v182 x0 x1 x2 x3 x4 x5 x6 x7 x8 x9 x10 x11 x12 x13 x14 x15 x16 x17 x18 x19 x20 x21 x22 x23 x24 x25 x26) (v211 x0 x1 x2 x3 x4 x5 x6 x7 x8 x9 x10 x11 x12 x13 x14 x15 x16 x17 x18 x19 x20 x21 x22 x23 x24 x25 x26)
def v252 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay32 (v19 x0 x1 x2 x3 x4 x5 x6 x7 x8 x9 x10 x11 x12 x13 x14 x15 x16 x17 x18 x19 x20 x21 x22 x23 x24 x25 x26) (v89 x0 x1 x2 x3 x4 x5 x6 x7 x8 x9 x10 x11 x12 x13 x14 x15 x16 x17 x18 x19 x20 x21 x22 x23 x24 x25 x26) (v90 x0 x1 x2 x3 x4 x5 x6 x7 x8 x9 x10 x11 x12 x13 x14 x15 x16 x17 x18 x19 x20 x21 x22 x23 x24 x25 x26) (v92 x0 x1 x2 x3 x4 x5 x6 x7 x8 x9 x10 x11 x12 x13 x14 x15 x16 x17 x18 x19 x20 x21 x22 x23 x24 x25 x26) (v94 x0 x1 x2 x3 x4 x5 x6 x7 x8 x9 x10 x11 x12 x13 x14 x15 x16 x17 x18 x19 x20 x21 x22 x23 x24 x25 x26) (v98 x0 x1 x2 x3 x4 x5 x6 x7 x8 x9 x10 x11 x12 x13 x14 x15 x16 x17 x18 x19 x20 x21 x22 x23 x24 x25 x26) (v127 x0 x1 x2 x3 x4 x5 x6 x7 x8 x9 x10 x11 x12 x13 x14 x15 x16 x17 x18 x19 x20 x21 x22 x23 x24 x25 x26) (v156 x0 x1 x2 x3 x4 x5 x6 x7 x8 x9 x10 x11 x12 x13 x14 x15 x16 x17 x18 x19 x20 x21 x22 x23 x24 x25 x26) (v182 x0 x1 x2 x3 x4 x5 x6 x7 x8 x9 x10 x11 x12 x13 x14 x15 x16 x17 x18 x19 x20 x21 x22 x23 x24 x25 x26) (v211 x0 x1 x2 x3 x4 x5 x6 x7 x8 x9 x10 x11 x12 x13 x14 x15 x16 x17 x18 x19 x20 x21 x22 x23 x24 x25 x26)
def v254 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay33 (v19 x0 x1 x2 x3 x4 x5 x6 x7 x8 x9 x10 x11 x12 x13 x14 x15 x16 x17 x18 x19 x20 x21 x22 x23 x24 x25 x26) (v89 x0 x1 x2 x3 x4 x5 x6 x7 x8 x9 x10 x11 x12 x13 x14 x15 x16 x17 x18 x19 x20 x21 x22 x23 x24 x25 x26) (v90 x0 x1 x2 x3 x4 x5 x6 x7 x8 x9 x10 x11 x12 x13 x14 x15 x16 x17 x18 x19 x20 x21 x22 x23 x24 x25 x26) (v92 x0 x1 x2 x3 x4 x5 x6 x7 x8 x9 x10 x11 x12 x13 x14 x15 x16 x17 x18 x19 x20 x21 x22 x23 x24 x25 x26) (v94 x0 x1 x2 x3 x4 x5 x6 x7 x8 x9 x10 x11 x12 x13 x14 x15 x16 x17 x18 x19 x20 x21 x22 x23 x24 x25 x26) (v98 x0 x1 x2 x3 x4 x5 x6 x7 x8 x9 x10 x11 x12 x13 x14 x15 x16 x17 x18 x19 x20 x21 x22 x23 x24 x25 x26) (v127 x0 x1 x2 x3 x4 x5 x6 x7 x8 x9 x10 x11 x12 x13 x14 x15 x16 x17 x18 x19 x20 x21 x22 x23 x24 x25 x26) (v156 x0 x1 x2 x3 x4 x5 x6 x7 x8 x9 x10 x11 x12 x13 x14 x15 x16 x17 x18 x19 x20 x21 x22 x23 x24 x25 x26) (v182 x0 x1 x2 x3 x4 x5 x6 x7 x8 x9 x10 x11 x12 x13 x14 x15 x16 x17 x18 x19 x20 x21 x22 x23 x24 x25 x26) (v211 x0 x1 x2 x3 x4 x5 x6 x7 x8 x9 x10 x11 x12 x13 x14 x15 x16 x17 x18 x19 x20 x21 x22 x23 x24 x25 x26)
def v260 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay34 (v19 x0 x1 x2 x3 x4 x5 x6 x7 x8 x9 x10 x11 x12 x13 x14 x15 x16 x17 x18 x19 x20 x21 x22 x23 x24 x25 x26) (v89 x0 x1 x2 x3 x4 x5 x6 x7 x8 x9 x10 x11 x12 x13 x14 x15 x16 x17 x18 x19 x20 x21 x22 x23 x24 x25 x26) (v90 x0 x1 x2 x3 x4 x5 x6 x7 x8 x9 x10 x11 x12 x13 x14 x15 x16 x17 x18 x19 x20 x21 x22 x23 x24 x25 x26) (v92 x0 x1 x2 x3 x4 x5 x6 x7 x8 x9 x10 x11 x12 x13 x14 x15 x16 x17 x18 x19 x20 x21 x22 x23 x24 x25 x26) (v94 x0 x1 x2 x3 x4 x5 x6 x7 x8 x9 x10 x11 x12 x13 x14 x15 x16 x17 x18 x19 x20 x21 x22 x23 x24 x25 x26) (v98 x0 x1 x2 x3 x4 x5 x6 x7 x8 x9 x10 x11 x12 x13 x14 x15 x16 x17 x18 x19 x20 x21 x22 x23 x24 x25 x26) (v127 x0 x1 x2 x3 x4 x5 x6 x7 x8 x9 x10 x11 x12 x13 x14 x15 x16 x17 x18 x19 x20 x21 x22 x23 x24 x25 x26) (v156 x0 x1 x2 x3 x4 x5 x6 x7 x8 x9 x10 x11 x12 x13 x14 x15 x16 x17 x18 x19 x20 x21 x22 x23 x24 x25 x26) (v182 x0 x1 x2 x3 x4 x5 x6 x7 x8 x9 x10 x11 x12 x13 x14 x15 x16 x17 x18 x19 x20 x21 x22 x23 x24 x25 x26) (v211 x0 x1 x2 x3 x4 x5 x6 x7 x8 x9 x10 x11 x12 x13 x14 x15 x16 x17 x18 x19 x20 x21 x22 x23 x24 x25 x26)
def v286 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1x512 .f32 :=
  k0_pay36 (View.ld x13 r0_4)
def v288 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1x512 .f32 :=
  k0_pay37 (View.ld x14 r0_4)
def v301 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay39 (v71 x0 x1 x2 x3 x4 x5 x6 x7 x8 x9 x10 x11 x12 x13 x14 x15 x16 x17 x18 x19 x20 x21 x22 x23 x24 x25 x26) (v89 x0 x1 x2 x3 x4 x5 x6 x7 x8 x9 x10 x11 x12 x13 x14 x15 x16 x17 x18 x19 x20 x21 x22 x23 x24 x25 x26) (v96 x0 x1 x2 x3 x4 x5 x6 x7 x8 x9 x10 x11 x12 x13 x14 x15 x16 x17 x18 x19 x20 x21 x22 x23 x24 x25 x26) (v101 x0 x1 x2 x3 x4 x5 x6 x7 x8 x9 x10 x11 x12 x13 x14 x15 x16 x17 x18 x19 x20 x21 x22 x23 x24 x25 x26) (v130 x0 x1 x2 x3 x4 x5 x6 x7 x8 x9 x10 x11 x12 x13 x14 x15 x16 x17 x18 x19 x20 x21 x22 x23 x24 x25 x26) (v185 x0 x1 x2 x3 x4 x5 x6 x7 x8 x9 x10 x11 x12 x13 x14 x15 x16 x17 x18 x19 x20 x21 x22 x23 x24 x25 x26) (v214 x0 x1 x2 x3 x4 x5 x6 x7 x8 x9 x10 x11 x12 x13 x14 x15 x16 x17 x18 x19 x20 x21 x22 x23 x24 x25 x26) (v246 x0 x1 x2 x3 x4 x5 x6 x7 x8 x9 x10 x11 x12 x13 x14 x15 x16 x17 x18 x19 x20 x21 x22 x23 x24 x25 x26) (v248 x0 x1 x2 x3 x4 x5 x6 x7 x8 x9 x10 x11 x12 x13 x14 x15 x16 x17 x18 x19 x20 x21 x22 x23 x24 x25 x26) (v250 x0 x1 x2 x3 x4 x5 x6 x7 x8 x9 x10 x11 x12 x13 x14 x15 x16 x17 x18 x19 x20 x21 x22 x23 x24 x25 x26) (v252 x0 x1 x2 x3 x4 x5 x6 x7 x8 x9 x10 x11 x12 x13 x14 x15 x16 x17 x18 x19 x20 x21 x22 x23 x24 x25 x26) (v254 x0 x1 x2 x3 x4 x5 x6 x7 x8 x9 x10 x11 x12 x13 x14 x15 x16 x17 x18 x19 x20 x21 x22 x23 x24 x25 x26) (v260 x0 x1 x2 x3 x4 x5 x6 x7 x8 x9 x10 x11 x12 x13 x14 x15 x16 x17 x18 x19 x20 x21 x22 x23 x24 x25 x26) (View.ld x12 r0_4)
def v305 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay40 (v71 x0 x1 x2 x3 x4 x5 x6 x7 x8 x9 x10 x11 x12 x13 x14 x15 x16 x17 x18 x19 x20 x21 x22 x23 x24 x25 x26) (v89 x0 x1 x2 x3 x4 x5 x6 x7 x8 x9 x10 x11 x12 x13 x14 x15 x16 x17 x18 x19 x20 x21 x22 x23 x24 x25 x26) (v96 x0 x1 x2 x3 x4 x5 x6 x7 x8 x9 x10 x11 x12 x13 x14 x15 x16 x17 x18 x19 x20 x21 x22 x23 x24 x25 x26) (v101 x0 x1 x2 x3 x4 x5 x6 x7 x8 x9 x10 x11 x12 x13 x14 x15 x16 x17 x18 x19 x20 x21 x22 x23 x24 x25 x26) (v130 x0 x1 x2 x3 x4 x5 x6 x7 x8 x9 x10 x11 x12 x13 x14 x15 x16 x17 x18 x19 x20 x21 x22 x23 x24 x25 x26) (v185 x0 x1 x2 x3 x4 x5 x6 x7 x8 x9 x10 x11 x12 x13 x14 x15 x16 x17 x18 x19 x20 x21 x22 x23 x24 x25 x26) (v214 x0 x1 x2 x3 x4 x5 x6 x7 x8 x9 x10 x11 x12 x13 x14 x15 x16 x17 x18 x19 x20 x21 x22 x23 x24 x25 x26) (v246 x0 x1 x2 x3 x4 x5 x6 x7 x8 x9 x10 x11 x12 x13 x14 x15 x16 x17 x18 x19 x20 x21 x22 x23 x24 x25 x26) (v248 x0 x1 x2 x3 x4 x5 x6 x7 x8 x9 x10 x11 x12 x13 x14 x15 x16 x17 x18 x19 x20 x21 x22 x23 x24 x25 x26) (v250 x0 x1 x2 x3 x4 x5 x6 x7 x8 x9 x10 x11 x12 x13 x14 x15 x16 x17 x18 x19 x20 x21 x22 x23 x24 x25 x26) (v252 x0 x1 x2 x3 x4 x5 x6 x7 x8 x9 x10 x11 x12 x13 x14 x15 x16 x17 x18 x19 x20 x21 x22 x23 x24 x25 x26) (v254 x0 x1 x2 x3 x4 x5 x6 x7 x8 x9 x10 x11 x12 x13 x14 x15 x16 x17 x18 x19 x20 x21 x22 x23 x24 x25 x26) (v260 x0 x1 x2 x3 x4 x5 x6 x7 x8 x9 x10 x11 x12 x13 x14 x15 x16 x17 x18 x19 x20 x21 x22 x23 x24 x25 x26) (View.ld x12 r0_4)
def v318 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay41 (v286 x0 x1 x2 x3 x4 x5 x6 x7 x8 x9 x10 x11 x12 x13 x14 x15 x16 x17 x18 x19 x20 x21 x22 x23 x24 x25 x26) (v288 x0 x1 x2 x3 x4 x5 x6 x7 x8 x9 x10 x11 x12 x13 x14 x15 x16 x17 x18 x19 x20 x21 x22 x23 x24 x25 x26) (v301 x0 x1 x2 x3 x4 x5 x6 x7 x8 x9 x10 x11 x12 x13 x14 x15 x16 x17 x18 x19 x20 x21 x22 x23 x24 x25 x26) (v305 x0 x1 x2 x3 x4 x5 x6 x7 x8 x9 x10 x11 x12 x13 x14 x15 x16 x17 x18 x19 x20 x21 x22 x23 x24 x25 x26)
def v326 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay43 (v286 x0 x1 x2 x3 x4 x5 x6 x7 x8 x9 x10 x11 x12 x13 x14 x15 x16 x17 x18 x19 x20 x21 x22 x23 x24 x25 x26) (v288 x0 x1 x2 x3 x4 x5 x6 x7 x8 x9 x10 x11 x12 x13 x14 x15 x16 x17 x18 x19 x20 x21 x22 x23 x24 x25 x26) (v301 x0 x1 x2 x3 x4 x5 x6 x7 x8 x9 x10 x11 x12 x13 x14 x15 x16 x17 x18 x19 x20 x21 x22 x23 x24 x25 x26) (v305 x0 x1 x2 x3 x4 x5 x6 x7 x8 x9 x10 x11 x12 x13 x14 x15 x16 x17 x18 x19 x20 x21 x22 x23 x24 x25 x26) (View.ld x15 r0_7) (View.ld x16 r0_8)
def v327 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay44 (v286 x0 x1 x2 x3 x4 x5 x6 x7 x8 x9 x10 x11 x12 x13 x14 x15 x16 x17 x18 x19 x20 x21 x22 x23 x24 x25 x26) (v288 x0 x1 x2 x3 x4 x5 x6 x7 x8 x9 x10 x11 x12 x13 x14 x15 x16 x17 x18 x19 x20 x21 x22 x23 x24 x25 x26) (v301 x0 x1 x2 x3 x4 x5 x6 x7 x8 x9 x10 x11 x12 x13 x14 x15 x16 x17 x18 x19 x20 x21 x22 x23 x24 x25 x26) (v305 x0 x1 x2 x3 x4 x5 x6 x7 x8 x9 x10 x11 x12 x13 x14 x15 x16 x17 x18 x19 x20 x21 x22 x23 x24 x25 x26) (View.ld x15 r0_7) (View.ld x16 r0_8)
def v329 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S3x512 .f32 :=
  k0_pay45 (v81 x0 x1 x2 x3 x4 x5 x6 x7 x8 x9 x10 x11 x12 x13 x14 x15 x16 x17 x18 x19 x20 x21 x22 x23 x24 x25 x26) (View.ld x17 r0_9)
def v331 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S512x4 .f32 :=
  k0_pay46 (View.ld x18 r0_10)
def v333 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S4x512 .f32 :=
  k0_pay47 (View.ld x19 r0_9)
def v335 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : IVec S1280x1 1 :=
  k0_pay48 (v19 x0 x1 x2 x3 x4 x5 x6 x7 x8 x9 x10 x11 x12 x13 x14 x15 x16 x17 x18 x19 x20 x21 x22 x23 x24 x25 x26)
def v338 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay49 (v286 x0 x1 x2 x3 x4 x5 x6 x7 x8 x9 x10 x11 x12 x13 x14 x15 x16 x17 x18 x19 x20 x21 x22 x23 x24 x25 x26) (v288 x0 x1 x2 x3 x4 x5 x6 x7 x8 x9 x10 x11 x12 x13 x14 x15 x16 x17 x18 x19 x20 x21 x22 x23 x24 x25 x26) (v301 x0 x1 x2 x3 x4 x5 x6 x7 x8 x9 x10 x11 x12 x13 x14 x15 x16 x17 x18 x19 x20 x21 x22 x23 x24 x25 x26) (v305 x0 x1 x2 x3 x4 x5 x6 x7 x8 x9 x10 x11 x12 x13 x14 x15 x16 x17 x18 x19 x20 x21 x22 x23 x24 x25 x26) (View.ld x15 r0_7) (View.ld x16 r0_8)
def v364 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay51 (v19 x0 x1 x2 x3 x4 x5 x6 x7 x8 x9 x10 x11 x12 x13 x14 x15 x16 x17 x18 x19 x20 x21 x22 x23 x24 x25 x26) (v331 x0 x1 x2 x3 x4 x5 x6 x7 x8 x9 x10 x11 x12 x13 x14 x15 x16 x17 x18 x19 x20 x21 x22 x23 x24 x25 x26) (v335 x0 x1 x2 x3 x4 x5 x6 x7 x8 x9 x10 x11 x12 x13 x14 x15 x16 x17 x18 x19 x20 x21 x22 x23 x24 x25 x26) (k0_pay50 (v81 x0 x1 x2 x3 x4 x5 x6 x7 x8 x9 x10 x11 x12 x13 x14 x15 x16 x17 x18 x19 x20 x21 x22 x23 x24 x25 x26) (v286 x0 x1 x2 x3 x4 x5 x6 x7 x8 x9 x10 x11 x12 x13 x14 x15 x16 x17 x18 x19 x20 x21 x22 x23 x24 x25 x26) (v288 x0 x1 x2 x3 x4 x5 x6 x7 x8 x9 x10 x11 x12 x13 x14 x15 x16 x17 x18 x19 x20 x21 x22 x23 x24 x25 x26) (v301 x0 x1 x2 x3 x4 x5 x6 x7 x8 x9 x10 x11 x12 x13 x14 x15 x16 x17 x18 x19 x20 x21 x22 x23 x24 x25 x26) (v305 x0 x1 x2 x3 x4 x5 x6 x7 x8 x9 x10 x11 x12 x13 x14 x15 x16 x17 x18 x19 x20 x21 x22 x23 x24 x25 x26) (View.ld x15 r0_7) (View.ld x16 r0_8) (View.ld x17 r0_9))
def v367 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay52 (v326 x0 x1 x2 x3 x4 x5 x6 x7 x8 x9 x10 x11 x12 x13 x14 x15 x16 x17 x18 x19 x20 x21 x22 x23 x24 x25 x26)
def v393 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay55 (k0_pay53 (v326 x0 x1 x2 x3 x4 x5 x6 x7 x8 x9 x10 x11 x12 x13 x14 x15 x16 x17 x18 x19 x20 x21 x22 x23 x24 x25 x26) (v327 x0 x1 x2 x3 x4 x5 x6 x7 x8 x9 x10 x11 x12 x13 x14 x15 x16 x17 x18 x19 x20 x21 x22 x23 x24 x25 x26) (v329 x0 x1 x2 x3 x4 x5 x6 x7 x8 x9 x10 x11 x12 x13 x14 x15 x16 x17 x18 x19 x20 x21 x22 x23 x24 x25 x26) (v331 x0 x1 x2 x3 x4 x5 x6 x7 x8 x9 x10 x11 x12 x13 x14 x15 x16 x17 x18 x19 x20 x21 x22 x23 x24 x25 x26)) (Named.named κ "neg" 0xF149F2CA#32) (k0_pay54 (v19 x0 x1 x2 x3 x4 x5 x6 x7 x8 x9 x10 x11 x12 x13 x14 x15 x16 x17 x18 x19 x20 x21 x22 x23 x24 x25 x26) (v335 x0 x1 x2 x3 x4 x5 x6 x7 x8 x9 x10 x11 x12 x13 x14 x15 x16 x17 x18 x19 x20 x21 x22 x23 x24 x25 x26))
def v419 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay56 (v19 x0 x1 x2 x3 x4 x5 x6 x7 x8 x9 x10 x11 x12 x13 x14 x15 x16 x17 x18 x19 x20 x21 x22 x23 x24 x25 x26) (v326 x0 x1 x2 x3 x4 x5 x6 x7 x8 x9 x10 x11 x12 x13 x14 x15 x16 x17 x18 x19 x20 x21 x22 x23 x24 x25 x26) (v327 x0 x1 x2 x3 x4 x5 x6 x7 x8 x9 x10 x11 x12 x13 x14 x15 x16 x17 x18 x19 x20 x21 x22 x23 x24 x25 x26) (v329 x0 x1 x2 x3 x4 x5 x6 x7 x8 x9 x10 x11 x12 x13 x14 x15 x16 x17 x18 x19 x20 x21 x22 x23 x24 x25 x26) (v331 x0 x1 x2 x3 x4 x5 x6 x7 x8 x9 x10 x11 x12 x13 x14 x15 x16 x17 x18 x19 x20 x21 x22 x23 x24 x25 x26) (v335 x0 x1 x2 x3 x4 x5 x6 x7 x8 x9 x10 x11 x12 x13 x14 x15 x16 x17 x18 x19 x20 x21 x22 x23 x24 x25 x26)
def v422 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay57 (v326 x0 x1 x2 x3 x4 x5 x6 x7 x8 x9 x10 x11 x12 x13 x14 x15 x16 x17 x18 x19 x20 x21 x22 x23 x24 x25 x26)
def v432 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay58 (v326 x0 x1 x2 x3 x4 x5 x6 x7 x8 x9 x10 x11 x12 x13 x14 x15 x16 x17 x18 x19 x20 x21 x22 x23 x24 x25 x26) (v327 x0 x1 x2 x3 x4 x5 x6 x7 x8 x9 x10 x11 x12 x13 x14 x15 x16 x17 x18 x19 x20 x21 x22 x23 x24 x25 x26) (v329 x0 x1 x2 x3 x4 x5 x6 x7 x8 x9 x10 x11 x12 x13 x14 x15 x16 x17 x18 x19 x20 x21 x22 x23 x24 x25 x26) (v331 x0 x1 x2 x3 x4 x5 x6 x7 x8 x9 x10 x11 x12 x13 x14 x15 x16 x17 x18 x19 x20 x21 x22 x23 x24 x25 x26)
def v434 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : IVec S1280x1 32 :=
  k0_pay59 (v19 x0 x1 x2 x3 x4 x5 x6 x7 x8 x9 x10 x11 x12 x13 x14 x15 x16 x17 x18 x19 x20 x21 x22 x23 x24 x25 x26)
def v436 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : IVec S1280x1 1 :=
  k0_pay60 (v19 x0 x1 x2 x3 x4 x5 x6 x7 x8 x9 x10 x11 x12 x13 x14 x15 x16 x17 x18 x19 x20 x21 x22 x23 x24 x25 x26)
def v448 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay61 (v335 x0 x1 x2 x3 x4 x5 x6 x7 x8 x9 x10 x11 x12 x13 x14 x15 x16 x17 x18 x19 x20 x21 x22 x23 x24 x25 x26) (v432 x0 x1 x2 x3 x4 x5 x6 x7 x8 x9 x10 x11 x12 x13 x14 x15 x16 x17 x18 x19 x20 x21 x22 x23 x24 x25 x26) (v434 x0 x1 x2 x3 x4 x5 x6 x7 x8 x9 x10 x11 x12 x13 x14 x15 x16 x17 x18 x19 x20 x21 x22 x23 x24 x25 x26) (v436 x0 x1 x2 x3 x4 x5 x6 x7 x8 x9 x10 x11 x12 x13 x14 x15 x16 x17 x18 x19 x20 x21 x22 x23 x24 x25 x26) 80#32
def v451 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay62 (v326 x0 x1 x2 x3 x4 x5 x6 x7 x8 x9 x10 x11 x12 x13 x14 x15 x16 x17 x18 x19 x20 x21 x22 x23 x24 x25 x26)
def v477 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay63 (v19 x0 x1 x2 x3 x4 x5 x6 x7 x8 x9 x10 x11 x12 x13 x14 x15 x16 x17 x18 x19 x20 x21 x22 x23 x24 x25 x26) (v326 x0 x1 x2 x3 x4 x5 x6 x7 x8 x9 x10 x11 x12 x13 x14 x15 x16 x17 x18 x19 x20 x21 x22 x23 x24 x25 x26) (v327 x0 x1 x2 x3 x4 x5 x6 x7 x8 x9 x10 x11 x12 x13 x14 x15 x16 x17 x18 x19 x20 x21 x22 x23 x24 x25 x26) (v329 x0 x1 x2 x3 x4 x5 x6 x7 x8 x9 x10 x11 x12 x13 x14 x15 x16 x17 x18 x19 x20 x21 x22 x23 x24 x25 x26) (v331 x0 x1 x2 x3 x4 x5 x6 x7 x8 x9 x10 x11 x12 x13 x14 x15 x16 x17 x18 x19 x20 x21 x22 x23 x24 x25 x26) (v335 x0 x1 x2 x3 x4 x5 x6 x7 x8 x9 x10 x11 x12 x13 x14 x15 x16 x17 x18 x19 x20 x21 x22 x23 x24 x25 x26)
def v481 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay64 (v19 x0 x1 x2 x3 x4 x5 x6 x7 x8 x9 x10 x11 x12 x13 x14 x15 x16 x17 x18 x19 x20 x21 x22 x23 x24 x25 x26) (v326 x0 x1 x2 x3 x4 x5 x6 x7 x8 x9 x10 x11 x12 x13 x14 x15 x16 x17 x18 x19 x20 x21 x22 x23 x24 x25 x26) (v327 x0 x1 x2 x3 x4 x5 x6 x7 x8 x9 x10 x11 x12 x13 x14 x15 x16 x17 x18 x19 x20 x21 x22 x23 x24 x25 x26) (v329 x0 x1 x2 x3 x4 x5 x6 x7 x8 x9 x10 x11 x12 x13 x14 x15 x16 x17 x18 x19 x20 x21 x22 x23 x24 x25 x26) (v331 x0 x1 x2 x3 x4 x5 x6 x7 x8 x9 x10 x11 x12 x13 x14 x15 x16 x17 x18 x19 x20 x21 x22 x23 x24 x25 x26) (v335 x0 x1 x2 x3 x4 x5 x6 x7 x8 x9 x10 x11 x12 x13 x14 x15 x16 x17 x18 x19 x20 x21 x22 x23 x24 x25 x26) (v364 x0 x1 x2 x3 x4 x5 x6 x7 x8 x9 x10 x11 x12 x13 x14 x15 x16 x17 x18 x19 x20 x21 x22 x23 x24 x25 x26) (v393 x0 x1 x2 x3 x4 x5 x6 x7 x8 x9 x10 x11 x12 x13 x14 x15 x16 x17 x18 x19 x20 x21 x22 x23 x24 x25 x26) (v419 x0 x1 x2 x3 x4 x5 x6 x7 x8 x9 x10 x11 x12 x13 x14 x15 x16 x17 x18 x19 x20 x21 x22 x23 x24 x25 x26) (v432 x0 x1 x2 x3 x4 x5 x6 x7 x8 x9 x10 x11 x12 x13 x14 x15 x16 x17 x18 x19 x20 x21 x22 x23 x24 x25 x26) (v434 x0 x1 x2 x3 x4 x5 x6 x7 x8 x9 x10 x11 x12 x13 x14 x15 x16 x17 x18 x19 x20 x21 x22 x23 x24 x25 x26) (v436 x0 x1 x2 x3 x4 x5 x6 x7 x8 x9 x10 x11 x12 x13 x14 x15 x16 x17 x18 x19 x20 x21 x22 x23 x24 x25 x26) 80#32
def v483 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay65 (v19 x0 x1 x2 x3 x4 x5 x6 x7 x8 x9 x10 x11 x12 x13 x14 x15 x16 x17 x18 x19 x20 x21 x22 x23 x24 x25 x26) (v326 x0 x1 x2 x3 x4 x5 x6 x7 x8 x9 x10 x11 x12 x13 x14 x15 x16 x17 x18 x19 x20 x21 x22 x23 x24 x25 x26) (v327 x0 x1 x2 x3 x4 x5 x6 x7 x8 x9 x10 x11 x12 x13 x14 x15 x16 x17 x18 x19 x20 x21 x22 x23 x24 x25 x26) (v329 x0 x1 x2 x3 x4 x5 x6 x7 x8 x9 x10 x11 x12 x13 x14 x15 x16 x17 x18 x19 x20 x21 x22 x23 x24 x25 x26) (v331 x0 x1 x2 x3 x4 x5 x6 x7 x8 x9 x10 x11 x12 x13 x14 x15 x16 x17 x18 x19 x20 x21 x22 x23 x24 x25 x26) (v335 x0 x1 x2 x3 x4 x5 x6 x7 x8 x9 x10 x11 x12 x13 x14 x15 x16 x17 x18 x19 x20 x21 x22 x23 x24 x25 x26) (v364 x0 x1 x2 x3 x4 x5 x6 x7 x8 x9 x10 x11 x12 x13 x14 x15 x16 x17 x18 x19 x20 x21 x22 x23 x24 x25 x26) (v393 x0 x1 x2 x3 x4 x5 x6 x7 x8 x9 x10 x11 x12 x13 x14 x15 x16 x17 x18 x19 x20 x21 x22 x23 x24 x25 x26) (v419 x0 x1 x2 x3 x4 x5 x6 x7 x8 x9 x10 x11 x12 x13 x14 x15 x16 x17 x18 x19 x20 x21 x22 x23 x24 x25 x26) (v432 x0 x1 x2 x3 x4 x5 x6 x7 x8 x9 x10 x11 x12 x13 x14 x15 x16 x17 x18 x19 x20 x21 x22 x23 x24 x25 x26) (v434 x0 x1 x2 x3 x4 x5 x6 x7 x8 x9 x10 x11 x12 x13 x14 x15 x16 x17 x18 x19 x20 x21 x22 x23 x24 x25 x26) (v436 x0 x1 x2 x3 x4 x5 x6 x7 x8 x9 x10 x11 x12 x13 x14 x15 x16 x17 x18 x19 x20 x21 x22 x23 x24 x25 x26) 80#32
def v484 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x4 .f32 :=
  k0_pay66 (v19 x0 x1 x2 x3 x4 x5 x6 x7 x8 x9 x10 x11 x12 x13 x14 x15 x16 x17 x18 x19 x20 x21 x22 x23 x24 x25 x26) (v326 x0 x1 x2 x3 x4 x5 x6 x7 x8 x9 x10 x11 x12 x13 x14 x15 x16 x17 x18 x19 x20 x21 x22 x23 x24 x25 x26) (v327 x0 x1 x2 x3 x4 x5 x6 x7 x8 x9 x10 x11 x12 x13 x14 x15 x16 x17 x18 x19 x20 x21 x22 x23 x24 x25 x26) (v329 x0 x1 x2 x3 x4 x5 x6 x7 x8 x9 x10 x11 x12 x13 x14 x15 x16 x17 x18 x19 x20 x21 x22 x23 x24 x25 x26) (v331 x0 x1 x2 x3 x4 x5 x6 x7 x8 x9 x10 x11 x12 x13 x14 x15 x16 x17 x18 x19 x20 x21 x22 x23 x24 x25 x26) (v335 x0 x1 x2 x3 x4 x5 x6 x7 x8 x9 x10 x11 x12 x13 x14 x15 x16 x17 x18 x19 x20 x21 x22 x23 x24 x25 x26) (v364 x0 x1 x2 x3 x4 x5 x6 x7 x8 x9 x10 x11 x12 x13 x14 x15 x16 x17 x18 x19 x20 x21 x22 x23 x24 x25 x26) (v393 x0 x1 x2 x3 x4 x5 x6 x7 x8 x9 x10 x11 x12 x13 x14 x15 x16 x17 x18 x19 x20 x21 x22 x23 x24 x25 x26) (v419 x0 x1 x2 x3 x4 x5 x6 x7 x8 x9 x10 x11 x12 x13 x14 x15 x16 x17 x18 x19 x20 x21 x22 x23 x24 x25 x26) (v432 x0 x1 x2 x3 x4 x5 x6 x7 x8 x9 x10 x11 x12 x13 x14 x15 x16 x17 x18 x19 x20 x21 x22 x23 x24 x25 x26) (v434 x0 x1 x2 x3 x4 x5 x6 x7 x8 x9 x10 x11 x12 x13 x14 x15 x16 x17 x18 x19 x20 x21 x22 x23 x24 x25 x26) (v436 x0 x1 x2 x3 x4 x5 x6 x7 x8 x9 x10 x11 x12 x13 x14 x15 x16 x17 x18 x19 x20 x21 x22 x23 x24 x25 x26) 80#32
def v521 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay67 (v318 x0 x1 x2 x3 x4 x5 x6 x7 x8 x9 x10 x11 x12 x13 x14 x15 x16 x17 x18 x19 x20 x21 x22 x23 x24 x25 x26) (v326 x0 x1 x2 x3 x4 x5 x6 x7 x8 x9 x10 x11 x12 x13 x14 x15 x16 x17 x18 x19 x20 x21 x22 x23 x24 x25 x26) (v333 x0 x1 x2 x3 x4 x5 x6 x7 x8 x9 x10 x11 x12 x13 x14 x15 x16 x17 x18 x19 x20 x21 x22 x23 x24 x25 x26) (v338 x0 x1 x2 x3 x4 x5 x6 x7 x8 x9 x10 x11 x12 x13 x14 x15 x16 x17 x18 x19 x20 x21 x22 x23 x24 x25 x26) (v367 x0 x1 x2 x3 x4 x5 x6 x7 x8 x9 x10 x11 x12 x13 x14 x15 x16 x17 x18 x19 x20 x21 x22 x23 x24 x25 x26) (v419 x0 x1 x2 x3 x4 x5 x6 x7 x8 x9 x10 x11 x12 x13 x14 x15 x16 x17 x18 x19 x20 x21 x22 x23 x24 x25 x26) (v422 x0 x1 x2 x3 x4 x5 x6 x7 x8 x9 x10 x11 x12 x13 x14 x15 x16 x17 x18 x19 x20 x21 x22 x23 x24 x25 x26) (v448 x0 x1 x2 x3 x4 x5 x6 x7 x8 x9 x10 x11 x12 x13 x14 x15 x16 x17 x18 x19 x20 x21 x22 x23 x24 x25 x26) (v451 x0 x1 x2 x3 x4 x5 x6 x7 x8 x9 x10 x11 x12 x13 x14 x15 x16 x17 x18 x19 x20 x21 x22 x23 x24 x25 x26) (v477 x0 x1 x2 x3 x4 x5 x6 x7 x8 x9 x10 x11 x12 x13 x14 x15 x16 x17 x18 x19 x20 x21 x22 x23 x24 x25 x26) (v481 x0 x1 x2 x3 x4 x5 x6 x7 x8 x9 x10 x11 x12 x13 x14 x15 x16 x17 x18 x19 x20 x21 x22 x23 x24 x25 x26) (v483 x0 x1 x2 x3 x4 x5 x6 x7 x8 x9 x10 x11 x12 x13 x14 x15 x16 x17 x18 x19 x20 x21 x22 x23 x24 x25 x26) (v484 x0 x1 x2 x3 x4 x5 x6 x7 x8 x9 x10 x11 x12 x13 x14 x15 x16 x17 x18 x19 x20 x21 x22 x23 x24 x25 x26) (View.ld x20 r0_4)
def v523 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1x512 .f32 :=
  k0_pay68 (View.ld x21 r0_4)
def v525 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1x512 .f32 :=
  k0_pay69 (View.ld x22 r0_4)
def v529 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x1 .f32 :=
  k0_pay70 (v318 x0 x1 x2 x3 x4 x5 x6 x7 x8 x9 x10 x11 x12 x13 x14 x15 x16 x17 x18 x19 x20 x21 x22 x23 x24 x25 x26) (v326 x0 x1 x2 x3 x4 x5 x6 x7 x8 x9 x10 x11 x12 x13 x14 x15 x16 x17 x18 x19 x20 x21 x22 x23 x24 x25 x26) (v333 x0 x1 x2 x3 x4 x5 x6 x7 x8 x9 x10 x11 x12 x13 x14 x15 x16 x17 x18 x19 x20 x21 x22 x23 x24 x25 x26) (v338 x0 x1 x2 x3 x4 x5 x6 x7 x8 x9 x10 x11 x12 x13 x14 x15 x16 x17 x18 x19 x20 x21 x22 x23 x24 x25 x26) (v367 x0 x1 x2 x3 x4 x5 x6 x7 x8 x9 x10 x11 x12 x13 x14 x15 x16 x17 x18 x19 x20 x21 x22 x23 x24 x25 x26) (v419 x0 x1 x2 x3 x4 x5 x6 x7 x8 x9 x10 x11 x12 x13 x14 x15 x16 x17 x18 x19 x20 x21 x22 x23 x24 x25 x26) (v422 x0 x1 x2 x3 x4 x5 x6 x7 x8 x9 x10 x11 x12 x13 x14 x15 x16 x17 x18 x19 x20 x21 x22 x23 x24 x25 x26) (v448 x0 x1 x2 x3 x4 x5 x6 x7 x8 x9 x10 x11 x12 x13 x14 x15 x16 x17 x18 x19 x20 x21 x22 x23 x24 x25 x26) (v451 x0 x1 x2 x3 x4 x5 x6 x7 x8 x9 x10 x11 x12 x13 x14 x15 x16 x17 x18 x19 x20 x21 x22 x23 x24 x25 x26) (v477 x0 x1 x2 x3 x4 x5 x6 x7 x8 x9 x10 x11 x12 x13 x14 x15 x16 x17 x18 x19 x20 x21 x22 x23 x24 x25 x26) (v481 x0 x1 x2 x3 x4 x5 x6 x7 x8 x9 x10 x11 x12 x13 x14 x15 x16 x17 x18 x19 x20 x21 x22 x23 x24 x25 x26) (v483 x0 x1 x2 x3 x4 x5 x6 x7 x8 x9 x10 x11 x12 x13 x14 x15 x16 x17 x18 x19 x20 x21 x22 x23 x24 x25 x26) (v484 x0 x1 x2 x3 x4 x5 x6 x7 x8 x9 x10 x11 x12 x13 x14 x15 x16 x17 x18 x19 x20 x21 x22 x23 x24 x25 x26) (View.ld x20 r0_4)
def v530 (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : FVec F S1280x512 .f32 :=
  k0_pay71 (v318 x0 x1 x2 x3 x4 x5 x6 x7 x8 x9 x10 x11 x12 x13 x14 x15 x16 x17 x18 x19 x20 x21 x22 x23 x24 x25 x26) (v326 x0 x1 x2 x3 x4 x5 x6 x7 x8 x9 x10 x11 x12 x13 x14 x15 x16 x17 x18 x19 x20 x21 x22 x23 x24 x25 x26) (v333 x0 x1 x2 x3 x4 x5 x6 x7 x8 x9 x10 x11 x12 x13 x14 x15 x16 x17 x18 x19 x20 x21 x22 x23 x24 x25 x26) (v338 x0 x1 x2 x3 x4 x5 x6 x7 x8 x9 x10 x11 x12 x13 x14 x15 x16 x17 x18 x19 x20 x21 x22 x23 x24 x25 x26) (v367 x0 x1 x2 x3 x4 x5 x6 x7 x8 x9 x10 x11 x12 x13 x14 x15 x16 x17 x18 x19 x20 x21 x22 x23 x24 x25 x26) (v419 x0 x1 x2 x3 x4 x5 x6 x7 x8 x9 x10 x11 x12 x13 x14 x15 x16 x17 x18 x19 x20 x21 x22 x23 x24 x25 x26) (v422 x0 x1 x2 x3 x4 x5 x6 x7 x8 x9 x10 x11 x12 x13 x14 x15 x16 x17 x18 x19 x20 x21 x22 x23 x24 x25 x26) (v448 x0 x1 x2 x3 x4 x5 x6 x7 x8 x9 x10 x11 x12 x13 x14 x15 x16 x17 x18 x19 x20 x21 x22 x23 x24 x25 x26) (v451 x0 x1 x2 x3 x4 x5 x6 x7 x8 x9 x10 x11 x12 x13 x14 x15 x16 x17 x18 x19 x20 x21 x22 x23 x24 x25 x26) (v477 x0 x1 x2 x3 x4 x5 x6 x7 x8 x9 x10 x11 x12 x13 x14 x15 x16 x17 x18 x19 x20 x21 x22 x23 x24 x25 x26) (v481 x0 x1 x2 x3 x4 x5 x6 x7 x8 x9 x10 x11 x12 x13 x14 x15 x16 x17 x18 x19 x20 x21 x22 x23 x24 x25 x26) (v483 x0 x1 x2 x3 x4 x5 x6 x7 x8 x9 x10 x11 x12 x13 x14 x15 x16 x17 x18 x19 x20 x21 x22 x23 x24 x25 x26) (v484 x0 x1 x2 x3 x4 x5 x6 x7 x8 x9 x10 x11 x12 x13 x14 x15 x16 x17 x18 x19 x20 x21 x22 x23 x24 x25 x26) (View.ld x20 r0_4)
/-- What the body leaves in the output block: its one store. -/
def out (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) : Vec F S16x128 .f32 :=
  View.canon [⟨r0_13, k0_pay1 (k0_pay72 (v521 x0 x1 x2 x3 x4 x5 x6 x7 x8 x9 x10 x11 x12 x13 x14 x15 x16 x17 x18 x19 x20 x21 x22 x23 x24 x25 x26) (v523 x0 x1 x2 x3 x4 x5 x6 x7 x8 x9 x10 x11 x12 x13 x14 x15 x16 x17 x18 x19 x20 x21 x22 x23 x24 x25 x26) (v525 x0 x1 x2 x3 x4 x5 x6 x7 x8 x9 x10 x11 x12 x13 x14 x15 x16 x17 x18 x19 x20 x21 x22 x23 x24 x25 x26) (v529 x0 x1 x2 x3 x4 x5 x6 x7 x8 x9 x10 x11 x12 x13 x14 x15 x16 x17 x18 x19 x20 x21 x22 x23 x24 x25 x26) (v530 x0 x1 x2 x3 x4 x5 x6 x7 x8 x9 x10 x11 x12 x13 x14 x15 x16 x17 x18 x19 x20 x21 x22 x23 x24 x25 x26) (View.ld x23 r0_11) (View.ld x24 r0_12)) (k0_pay73 (View.ld x25 r0_12)) (k0_pay74 (View.ld x26 r0_12)) (k0_pay75 (v521 x0 x1 x2 x3 x4 x5 x6 x7 x8 x9 x10 x11 x12 x13 x14 x15 x16 x17 x18 x19 x20 x21 x22 x23 x24 x25 x26) (v523 x0 x1 x2 x3 x4 x5 x6 x7 x8 x9 x10 x11 x12 x13 x14 x15 x16 x17 x18 x19 x20 x21 x22 x23 x24 x25 x26) (v525 x0 x1 x2 x3 x4 x5 x6 x7 x8 x9 x10 x11 x12 x13 x14 x15 x16 x17 x18 x19 x20 x21 x22 x23 x24 x25 x26) (v529 x0 x1 x2 x3 x4 x5 x6 x7 x8 x9 x10 x11 x12 x13 x14 x15 x16 x17 x18 x19 x20 x21 x22 x23 x24 x25 x26) (v530 x0 x1 x2 x3 x4 x5 x6 x7 x8 x9 x10 x11 x12 x13 x14 x15 x16 x17 x18 x19 x20 x21 x22 x23 x24 x25 x26) (View.ld x23 r0_11) (View.ld x24 r0_12)) (k0_pay76 (v521 x0 x1 x2 x3 x4 x5 x6 x7 x8 x9 x10 x11 x12 x13 x14 x15 x16 x17 x18 x19 x20 x21 x22 x23 x24 x25 x26) (v523 x0 x1 x2 x3 x4 x5 x6 x7 x8 x9 x10 x11 x12 x13 x14 x15 x16 x17 x18 x19 x20 x21 x22 x23 x24 x25 x26) (v525 x0 x1 x2 x3 x4 x5 x6 x7 x8 x9 x10 x11 x12 x13 x14 x15 x16 x17 x18 x19 x20 x21 x22 x23 x24 x25 x26) (v529 x0 x1 x2 x3 x4 x5 x6 x7 x8 x9 x10 x11 x12 x13 x14 x15 x16 x17 x18 x19 x20 x21 x22 x23 x24 x25 x26) (v530 x0 x1 x2 x3 x4 x5 x6 x7 x8 x9 x10 x11 x12 x13 x14 x15 x16 x17 x18 x19 x20 x21 x22 x23 x24 x25 x26) (View.ld x23 r0_11) (View.ld x24 r0_12))⟩]

/-! The same values over the bundle, each in terms of the earlier ones. -/

def val_v19 (x : Ins F) : IVec S1280x1 32 := v19 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v71 (x : Ins F) : FVec F S1280x512 .f32 := v71 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v80 (x : Ins F) : FVec F S1x4 .f32 := v80 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v81 (x : Ins F) : FVec F S3x4 .f32 := v81 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v89 (x : Ins F) : FVec F S1280x512 .f32 := v89 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v90 (x : Ins F) : FVec F S1280x512 .f32 := v90 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v92 (x : Ins F) : FVec F S3x512 .f32 := v92 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v94 (x : Ins F) : FVec F S512x4 .f32 := v94 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v96 (x : Ins F) : FVec F S4x512 .f32 := v96 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v98 (x : Ins F) : IVec S1280x1 1 := v98 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v101 (x : Ins F) : FVec F S1280x512 .f32 := v101 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v127 (x : Ins F) : FVec F S1280x4 .f32 := v127 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v130 (x : Ins F) : FVec F S1280x512 .f32 := v130 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v156 (x : Ins F) : FVec F S1280x4 .f32 := v156 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v182 (x : Ins F) : FVec F S1280x4 .f32 := v182 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v185 (x : Ins F) : FVec F S1280x512 .f32 := v185 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v211 (x : Ins F) : FVec F S1280x4 .f32 := v211 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v214 (x : Ins F) : FVec F S1280x512 .f32 := v214 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v246 (x : Ins F) : FVec F S1280x4 .f32 := v246 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v248 (x : Ins F) : FVec F S1280x4 .f32 := v248 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v250 (x : Ins F) : FVec F S1280x4 .f32 := v250 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v252 (x : Ins F) : FVec F S1280x4 .f32 := v252 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v254 (x : Ins F) : FVec F S1280x4 .f32 := v254 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v260 (x : Ins F) : FVec F S1280x4 .f32 := v260 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v286 (x : Ins F) : FVec F S1x512 .f32 := v286 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v288 (x : Ins F) : FVec F S1x512 .f32 := v288 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v301 (x : Ins F) : FVec F S1280x512 .f32 := v301 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v305 (x : Ins F) : FVec F S1280x512 .f32 := v305 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v318 (x : Ins F) : FVec F S1280x512 .f32 := v318 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v326 (x : Ins F) : FVec F S1280x512 .f32 := v326 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v327 (x : Ins F) : FVec F S1280x512 .f32 := v327 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v329 (x : Ins F) : FVec F S3x512 .f32 := v329 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v331 (x : Ins F) : FVec F S512x4 .f32 := v331 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v333 (x : Ins F) : FVec F S4x512 .f32 := v333 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v335 (x : Ins F) : IVec S1280x1 1 := v335 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v338 (x : Ins F) : FVec F S1280x512 .f32 := v338 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v364 (x : Ins F) : FVec F S1280x4 .f32 := v364 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v367 (x : Ins F) : FVec F S1280x512 .f32 := v367 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v393 (x : Ins F) : FVec F S1280x4 .f32 := v393 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v419 (x : Ins F) : FVec F S1280x4 .f32 := v419 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v422 (x : Ins F) : FVec F S1280x512 .f32 := v422 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v432 (x : Ins F) : FVec F S1280x4 .f32 := v432 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v434 (x : Ins F) : IVec S1280x1 32 := v434 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v436 (x : Ins F) : IVec S1280x1 1 := v436 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v448 (x : Ins F) : FVec F S1280x4 .f32 := v448 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v451 (x : Ins F) : FVec F S1280x512 .f32 := v451 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v477 (x : Ins F) : FVec F S1280x4 .f32 := v477 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v481 (x : Ins F) : FVec F S1280x4 .f32 := v481 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v483 (x : Ins F) : FVec F S1280x4 .f32 := v483 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v484 (x : Ins F) : FVec F S1280x4 .f32 := v484 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v521 (x : Ins F) : FVec F S1280x512 .f32 := v521 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v523 (x : Ins F) : FVec F S1x512 .f32 := v523 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v525 (x : Ins F) : FVec F S1x512 .f32 := v525 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v529 (x : Ins F) : FVec F S1280x1 .f32 := v529 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26
def val_v530 (x : Ins F) : FVec F S1280x512 .f32 := v530 x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26

/-- The output block over the bundle. -/
def outBlock (x : Ins F) : Vec F S16x128 .f32 := out x.x0 x.x1 x.x2 x.x3 x.x4 x.x5 x.x6 x.x7 x.x8 x.x9 x.x10 x.x11 x.x12 x.x13 x.x14 x.x15 x.x16 x.x17 x.x18 x.x19 x.x20 x.x21 x.x22 x.x23 x.x24 x.x25 x.x26

end Cert.KernelIdeal.Body

end
-- ==== Proof.KernelIdealRun.lean ====
/- The run of `KernelIdeal`: the body's triple, the pipeline's proof data, and the launch. The two raised budgets below are the
   size of the obligation: twenty-eight windows, each one conjunct. -/
module

public import proofs.«01_k».proof.Proof.KernelIdealBody
public import Idealize.ShloMosaic.Lib.Claim
public import Idealize.ShloMosaic.Lib.UnfoldOut

@[expose] public section

set_option maxRecDepth 16384

noncomputable section

namespace Cert.KernelIdeal.Body

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The one store covers the output block. -/
theorem covered (p0 : Vec F S16x128 .f32) (y : S16x128.Idx) :
    ∃ pc ∈ ([⟨r0_13, p0⟩] : List (View.Piece (Elt F) S16x128 .f32)), y ∈ pc.1.set :=
  View.cover_of_tiled [⟨r0_13, p0⟩] S16x128.size (by rfl) y

set_option maxHeartbeats 3000000 in
/-- The body's triple: owning the input buffers and the output buffer at anything, it runs, leaves the inputs as they
    were and the output buffer at `out` of them. -/
theorem sound_kernel (c : Dev nD) (E : Set ℕ) (i : grid0.Coords) (arg1 : Memref sig .tc .vmem S16x80x256 .f32) (harg1 : arg1.IsWhole) (arg2 : Memref sig .tc .vmem S2x256 .f32) (harg2 : arg2.IsWhole) (arg3 : Memref sig .tc .vmem S3x4 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S4x512 .f32) (harg10 : arg10.IsWhole) (arg11 : Memref sig .tc .vmem S512x4 .f32) (harg11 : arg11.IsWhole) (arg12 : Memref sig .tc .vmem S4x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x1024 .f32) (harg16 : arg16.IsWhole) (arg17 : Memref sig .tc .vmem S1x1024 .f32) (harg17 : arg17.IsWhole) (arg18 : Memref sig .tc .vmem S4x512 .f32) (harg18 : arg18.IsWhole) (arg19 : Memref sig .tc .vmem S512x4 .f32) (harg19 : arg19.IsWhole) (arg20 : Memref sig .tc .vmem S4x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S1024x128 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S16x128 .f32) (harg28 : arg28.IsWhole)
    (x0 : Vec F S16x80x256 .f32) (x1 : Vec F S2x256 .f32) (x2 : Vec F S3x4 .f32) (x3 : Vec F S256x512 .f32) (x4 : Vec F S1x512 .f32) (x5 : Vec F S1x512 .f32) (x6 : Vec F S1x512 .f32) (x7 : Vec F S512x1024 .f32) (x8 : Vec F S1x1024 .f32) (x9 : Vec F S4x512 .f32) (x10 : Vec F S512x4 .f32) (x11 : Vec F S4x512 .f32) (x12 : Vec F S1x512 .f32) (x13 : Vec F S1x512 .f32) (x14 : Vec F S1x512 .f32) (x15 : Vec F S512x1024 .f32) (x16 : Vec F S1x1024 .f32) (x17 : Vec F S4x512 .f32) (x18 : Vec F S512x4 .f32) (x19 : Vec F S4x512 .f32) (x20 : Vec F S1x512 .f32) (x21 : Vec F S1x512 .f32) (x22 : Vec F S1x512 .f32) (x23 : Vec F S1024x128 .f32) (x24 : Vec F S1x128 .f32) (x25 : Vec F S1x128 .f32) (x26 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare (out x0 x1 x2 x3 x4 x5 x6 x7 x8 x9 x10 x11 x12 x13 x14 x15 x16 x17 x18 x19 x20 x21 x22 x23 x24 x25 x26)) -∗ K ⟨⟩))
      ⊢ wp frame (wpE (defs₀ (F := F)) Variants.none c none) E (cc0__model_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0__model_kernel_eq_skeleton]; unfold cc0__model_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, Hk⟩
  subst hf0 hf1 hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  iexists _; isplitr
  swap; · iexact H27
  ipureintro
  refine (View.read_writes_eq_canon _ _ _ (covered _)).trans ?_
  rfl

/-- The input blocks at point `t` on core `c`. -/
def ins (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t
  x20 := iblk m c 20 t
  x21 := iblk m c 21 t
  x22 := iblk m c 22 t
  x23 := iblk m c 23 t
  x24 := iblk m c 24 t
  x25 := iblk m c 25 t
  x26 := iblk m c 26 t

/-- The pipeline's proof data: the arrays as the region finds them; after the body each input's buffer at its block and the
    output's at `outBlock` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => outBlock (ins m c t)
    | ⟨_ + 28, h⟩ => absurd h (Nat.not_lt.2 (Nat.le_add_left _ _))
  Φ _ := Pipeline.ΦA spec0 c
  q w := Pipeline.shareOf spec0 w
  owed _ := 0

/-- The proof data's arrays are the region's entry contents. -/
theorem A_eq (c : Dev nD) (w : Fin cfg0.W) : (dats m 0 c).A w = V m c (Pipeline.arrRef spec0 w) := by
  dsimp only [dats]

/-! What the body leaves, and what it finds, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = outBlock (ins m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 2000000 in
/-- The body at any point: the input buffers hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline ends at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Body

end
-- ==== Proof.Frames.lean ====
/- The frames of the three programs and the ledger of the idealization. -/
module

public import proofs.«01_k».proof.Defs
public import proofs.«01_k».proof.Proof.KernelRun
public import proofs.«01_k».proof.Proof.KernelIdealRun
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel runs, leaves its arguments unchanged and every counter at zero. -/
theorem frame_kernel : Cert.quiescent_Kernel := fun m ρ _ =>
  θ_run_and (Cert.Kernel.Gen.frame_of m ρ (Cert.Kernel.Body.dats m) (Cert.Kernel.Body.A_eq m) (Cert.Kernel.Body.run_main m ρ))
    ((θ_run Cert.Kernel.defs _ _).mono (fun _ h => h.2) (Cert.Kernel.Body.run_main_quiescent m ρ))

/-- The idealized kernel runs, leaves its arguments unchanged and every counter at zero. -/
theorem frame_kernelIdeal : Cert.quiescent_KernelIdeal := fun m ρ _ =>
  θ_run_and (Cert.KernelIdeal.Gen.frame_of m ρ (Cert.KernelIdeal.Body.dats m) (Cert.KernelIdeal.Body.A_eq m)
      (Cert.KernelIdeal.Body.run_main m ρ))
    ((θ_run Cert.KernelIdeal.defs _ _).mono (fun _ h => h.2) (Cert.KernelIdeal.Body.run_main_quiescent m ρ))

/-- The reference runs and leaves its arguments unchanged; it has no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants: `1/308` for its rounding, `−∞` for the mask's large negative number. -/
theorem preserves : Cert.preserves_Kernel_KernelIdeal :=
  ⟨IdealRules.named_const.statement Cert.KernelIdeal.κ "inv308" .f32 0x3B54C77B#32 ((308⁻¹ : ℝ) : EReal) rfl,
    IdealRules.named_const.statement Cert.KernelIdeal.κ "neg" .f32 0xF149F2CA#32 ⊥ rfl⟩

end Cert.Proof

end
-- ==== Proof.Reals.lean ====
/- The arithmetic on extended reals both programs share: a layer norm written with a quotient or with a
   reciprocal square root, the gelu written with either error function, and a softmax over five logits. -/
module

public import Idealize.ShloMosaic.Lib.Pointwise
public import Idealize.ShloMosaic.Lib.IdealHost

@[expose] public section

noncomputable section

namespace Cert.Reals

open Idealize.ShloMosaic

/-- The extended real a 32-bit float word names. -/
abbrev word (b : BitVec 32) : EReal := Ideal.ofBits .f32 b

/-! ## Literals -/

/-- The divisor of a mean over 512 entries. -/
theorem word_512 : word 0x44000000#32 = ((512 : ℝ) : EReal) := by
  simp [word, Ideal.ofBits, Ideal.ieee, -EReal.coe_mul]; norm_num

/-- The divisor of a mean over 128 entries. -/
theorem word_128 : word 0x43000000#32 = ((128 : ℝ) : EReal) := by
  simp [word, Ideal.ofBits, Ideal.ieee, -EReal.coe_mul]; norm_num

/-- The number of edges of the first kind. -/
theorem word_156 : word 0x431C0000#32 = ((156 : ℝ) : EReal) := by
  simp [word, Ideal.ofBits, Ideal.ieee, -EReal.coe_mul]; norm_num

/-- The number of edges of the second kind. -/
theorem word_152 : word 0x43180000#32 = ((152 : ℝ) : EReal) := by
  simp [word, Ideal.ofBits, Ideal.ieee, -EReal.coe_mul]; norm_num

/-- The number of all edges without the loops. -/
theorem word_308 : word 0x439A0000#32 = ((308 : ℝ) : EReal) := by
  simp [word, Ideal.ofBits, Ideal.ieee, -EReal.coe_mul]; norm_num

/-- The layer norm's small summand is positive. -/
theorem word_eps_pos : 0 < word 0x3727C5AC#32 := by
  simp [word, Ideal.ofBits, Ideal.ieee, -EReal.coe_mul]

/-- The softmax denominator's small summand is positive. -/
theorem word_tiny_pos : 0 < word 0x24E69595#32 := by
  simp [word, Ideal.ofBits, Ideal.ieee, -EReal.coe_mul]

/-- The word of minus infinity. -/
theorem word_bot : word 0xFF800000#32 = ⊥ := by
  simp [word, Ideal.ofBits, Ideal.ieee]

/-- The word of infinity. -/
theorem word_top : word 0x7F800000#32 = ⊤ := by
  simp [word, Ideal.ofBits, Ideal.ieee]

/-! ## Layer norm -/

/-- A square is not negative. -/
theorem sq_nonneg (x : EReal) : 0 ≤ x * x := by
  induction x using EReal.rec with
  | bot => simp
  | coe r => rw [← EReal.coe_mul]; exact EReal.coe_nonneg.2 (mul_self_nonneg r)
  | top => simp

/-- At a positive number a product with the reciprocal square root is the quotient by the square root. -/
theorem mul_rsqrt {v : EReal} (hv : 0 < v) (x : EReal) : x * Ideal.rsqrt v = Ideal.div x (Ideal.sqrt v) := by
  induction v using EReal.rec with
  | bot => simp at hv
  | coe r =>
    have hr : 0 < r := EReal.coe_pos.1 hv
    have hs : Real.sqrt r ≠ 0 := (Real.sqrt_pos.2 hr).ne'
    rw [Ideal.rsqrt_coe, Ideal.sqrt_coe, if_neg hr.not_gt, if_neg hr.ne', if_neg hr.not_gt, Ideal.div_coe hs, one_div]
  | top => simp [Ideal.div]

variable {m : Nat}

/-- The mean with divisor `N`. -/
def mean (N : EReal) (x : Fin m → EReal) : EReal := Ideal.div (∑ k, x k) N

/-- The variance with divisor `N`. -/
def var (N : EReal) (x : Fin m → EReal) : EReal := Ideal.div (∑ k, (x k - mean N x) * (x k - mean N x)) N

/-- The layer norm with scale `g` and shift `b`. -/
def norm (N : EReal) (x g b : Fin m → EReal) (j : Fin m) : EReal :=
  Ideal.div (x j - mean N x) (Ideal.sqrt (var N x + word 0x3727C5AC#32)) * g j + b j

/-- With a positive divisor the layer norm may be computed with the reciprocal square root. -/
theorem norm_rsqrt {N : EReal} {c : ℝ} (hN : N = (c : EReal)) (hc : 0 < c) (x g b : Fin m → EReal) (j : Fin m) :
    (x j - mean N x) * Ideal.rsqrt (var N x + word 0x3727C5AC#32) * g j + b j = norm N x g b j := by
  have hv : 0 ≤ var N x := by
    unfold var
    rw [hN, Ideal.div_coe hc.ne']
    exact mul_nonneg (Finset.sum_nonneg fun k _ => sq_nonneg _) (EReal.coe_nonneg.2 (by positivity))
  rw [mul_rsqrt (lt_of_lt_of_le word_eps_pos (le_add_of_nonneg_left hv)), norm]

/-! ## gelu -/

/-- The error function is odd. -/
theorem erf_neg (x : EReal) : Ideal.erf (-x) = -Ideal.erf x := by
  induction x using EReal.rec with
  | bot => simp
  | coe r =>
    rw [← EReal.coe_neg, Ideal.erf_coe, Ideal.erf_coe, ← EReal.coe_neg]
    congr 1
    have h := intervalIntegral.integral_comp_neg (a := 0) (b := r) (fun t : ℝ => Real.exp (-(t ^ 2)))
    simp only [neg_zero, even_two.neg_pow] at h
    rw [intervalIntegral.integral_symm, ← h]
    ring
  | top => simp

/-- The gelu with the complementary error function. -/
def gelu (y : EReal) : EReal := word 0x3F000000#32 * y * Ideal.erfc (-y * word 0x3F3504F3#32)

/-- The gelu with the error function is the same function. -/
theorem gelu_erf (y : EReal) : word 0x3F000000#32 * y * (1 + Ideal.erf (y * word 0x3F3504F3#32)) = gelu y := by
  rw [gelu, Ideal.erfc, EReal.neg_mul, erf_neg, sub_eq_add_neg, neg_neg]

/-! ## Softmax over five logits -/

/-- The greatest of five logits. -/
def top5 (L : Fin 5 → EReal) : EReal := Finset.univ.sup L

/-- The softmax weight of logit `k`, shifted by the greatest one. -/
def soft (L : Fin 5 → EReal) (k : Fin 5) : EReal :=
  Ideal.div (Ideal.exp (L k - top5 L)) (∑ i, Ideal.exp (L i - top5 L) + word 0x24E69595#32)

/-- An exponential is not negative. -/
theorem exp_nonneg (x : EReal) : 0 ≤ Ideal.exp x := by
  induction x using EReal.rec with
  | bot => simp
  | coe r => exact EReal.coe_nonneg.2 (Real.exp_pos r).le
  | top => simp

/-- A sum of exponentials with the small summand is positive. -/
theorem den_pos (S : Finset (Fin 5)) (f : Fin 5 → EReal) : 0 < ∑ i ∈ S, Ideal.exp (f i) + word 0x24E69595#32 :=
  lt_of_lt_of_le word_tiny_pos (le_add_of_nonneg_left (Finset.sum_nonneg fun _ _ => exp_nonneg _))

/-- A logit of minus infinity weighs nothing. -/
theorem soft_bot (L : Fin 5 → EReal) (k : Fin 5) (h : L k = ⊥) : soft L k = 0 := by
  unfold soft
  rw [h, EReal.bot_sub, Ideal.exp_bot, Ideal.zero_div (den_pos _ _).ne']

/-- The same weights with the shift replaced by zero where the greatest logit is infinite, and the
    denominator taken over the logits of a set outside which all are minus infinity. -/
theorem soft_shift (L : Fin 5 → EReal) (S : Finset (Fin 5)) (hS : ∀ k, k ∉ S → L k = ⊥) (k : Fin 5) (a : EReal)
    (ha : a = if max (top5 L) (-top5 L) < ⊤ then top5 L else 0) :
    Ideal.div (Ideal.exp (L k - a)) (∑ i ∈ S, Ideal.exp (L i - a) + word 0x24E69595#32) = soft L k := by
  have hle : ∀ i, L i ≤ top5 L := fun i => Finset.le_sup (f := L) (Finset.mem_univ i)
  have hsum : ∀ c, ∑ i ∈ S, Ideal.exp (L i - c) = ∑ i, Ideal.exp (L i - c) := fun c =>
    Finset.sum_subset (Finset.subset_univ S) fun i _ hi => by rw [hS i hi, EReal.bot_sub, Ideal.exp_bot]
  rw [hsum]
  unfold soft
  generalize hM : top5 L = M at *
  induction M using EReal.rec with
  | bot =>
    have hb : ∀ i, L i = ⊥ := fun i => le_bot_iff.1 (hle i)
    rw [hb k, EReal.bot_sub, EReal.bot_sub, Ideal.exp_bot, Ideal.zero_div (den_pos _ _).ne', Ideal.zero_div (den_pos _ _).ne']
  | coe r =>
    rw [if_pos] at ha
    · rw [ha]
    · rw [← EReal.coe_neg, max_lt_iff]; exact ⟨EReal.coe_lt_top _, EReal.coe_lt_top _⟩
  | top =>
    have ha0 : a = 0 := by rw [ha, if_neg (by simp)]
    obtain ⟨i, -, hi⟩ := Finset.exists_mem_eq_sup Finset.univ ⟨(0 : Fin 5), Finset.mem_univ _⟩ L
    have hi : L i = ⊤ := hi.symm.trans hM
    have hden : ∑ i, Ideal.exp (L i - a) + word 0x24E69595#32 = ⊤ := by
      refine top_le_iff.1 (le_trans ?_ (le_add_of_nonneg_right word_tiny_pos.le))
      refine le_trans (le_of_eq ?_) (Finset.single_le_sum (f := fun i => Ideal.exp (L i - a)) (fun _ _ => exp_nonneg _) (Finset.mem_univ i))
      simp [hi, ha0]
    rw [hden, EReal.sub_top, Ideal.exp_bot, Ideal.zero_div (den_pos _ _).ne']
    simp [Ideal.div]

/-- Five numbers' greatest, taken one after the other. -/
theorem top5_eq (L : Fin 5 → EReal) : top5 L = max (max (max (max (L 0) (L 1)) (L 2)) (L 3)) (L 4) := by
  simp [top5, Fin.univ_succ, Finset.sup_insert, max_assoc]

/-- The leaky rectifier. -/
def leaky (s : EReal) : EReal := if 0 ≤ s then s else word 0x3E4CCCCD#32 * s

end Cert.Reals

end
-- ==== Proof.Edges.lean ====
/- The edge tables of the reference: which node each edge leaves and enters. Every node is entered by one edge
   from each node two or one before it, from itself, and from each node one or two after it, as far as these lie
   in the same of the two chains. -/
module

public import proofs.«01_k».proof.ReferenceIdeal
public import proofs.«01_k».proof.Proof.Reals

@[expose] public section

set_option maxRecDepth 16384

noncomputable section

namespace Cert.Edges

open Idealize.ShloMosaic Cert.ReferenceIdeal Cert.Reals

/-- The node edge `e` leaves. -/
def src (e : Fin 388) : Fin 80 := ⟨(lit1 e).toNat % 80, Nat.mod_lt _ (by decide)⟩

/-- The node edge `e` enters. -/
def dst (e : Fin 388) : Fin 80 := ⟨(lit2 e).toNat % 80, Nat.mod_lt _ (by decide)⟩

/-- The sources' table holds the sources. -/
theorem lit1_src : ∀ e, lit1 e = BitVec.ofNat 32 (src e) := by decide +kernel

/-- The targets' table holds the targets. -/
theorem lit2_dst : ∀ e, lit2 e = BitVec.ofNat 32 (dst e) := by decide +kernel

/-- The kind of an edge that is not a loop: the first for neighbours, the last for second neighbours. -/
def kind (k : Fin 5) : Fin 3 := ![2, 0, 0, 0, 2] k

/-- Whether the node `k - 2` places after node `n` exists and lies in the chain of `n`. -/
def Valid (k : Fin 5) (n : Fin 80) : Prop :=
  2 ≤ n.val + k.val ∧ n.val + k.val < 82 ∧ (32 ≤ n.val + k.val ↔ 30 ≤ n.val)

instance (k : Fin 5) (n : Fin 80) : Decidable (Valid k n) := by unfold Valid; infer_instance

/-- The node `k - 2` places after node `n`, counted round. -/
def at5 (k : Fin 5) (n : Fin 80) : Fin 80 := ⟨(n.val + k.val + 78) % 80, Nat.mod_lt _ (by decide)⟩

/-- The place of edge `e`'s source relative to its target, counted from two before it. -/
def step (e : Fin 388) : Fin 5 := ⟨((src e).val + 2 - (dst e).val) % 5, Nat.mod_lt _ (by decide)⟩

/-- The edge into `n` from the node `k - 2` places after it. -/
def edge (k : Fin 5) (n : Fin 80) : Fin 388 :=
  ⟨(![if n.val < 30 then n.val + 154 else n.val + 180, if n.val < 30 then n.val + 387 else n.val + 27, n.val + 308,
    if n.val < 30 then n.val + 29 else n.val + 77, if n.val < 30 then n.val + 184 else n.val + 230] k) % 388,
    Nat.mod_lt _ (by decide)⟩

/-- Every edge is the one the formula names. -/
theorem edge_facts : ∀ e, Valid (step e) (dst e) ∧ edge (step e) (dst e) = e := by decide +kernel

/-- The edge the formula names enters `n` from the node it should; it is a loop exactly at no distance, and its
    table entry is its kind where it is not. -/
theorem edge_spec : ∀ k n, Valid k n → dst (edge k n) = n ∧ step (edge k n) = k ∧ src (edge k n) = at5 k n
    ∧ (308 ≤ (edge k n).val ↔ k = 2) := by decide +kernel

/-- The kinds' table holds the kinds. -/
theorem lit0_kind : ∀ e : Fin 308, lit0 e = BitVec.ofNat 32 (kind (step (e.castLE (by decide)))) := by decide +kernel

/-- No edge is of the middle kind; of the two others there are these many. -/
theorem kind_count : (Finset.univ.filter fun e : Fin 308 => kind (step (e.castLE (by decide))) = 0).card = 156
    ∧ (Finset.univ.filter fun e : Fin 308 => ¬ kind (step (e.castLE (by decide))) = 0).card = 152 := by decide +kernel

/-- An edge's kind is the first or the last. -/
theorem kind_cases : ∀ k, kind k ≠ 0 → kind k = 2 := by decide

/-- Every edge leaves the node at its place around its target. -/
theorem edge_at (e : Fin 388) : at5 (step e) (dst e) = src e := by
  have h := (edge_spec (step e) (dst e) (edge_facts e).1).2.2.1
  rw [(edge_facts e).2] at h
  exact h.symm

/-- A sum over the edges into `n` is a sum over the valid places around it. -/
theorem sum_edges (f : Fin 388 → EReal) (n : Fin 80) :
    ∑ e ∈ Finset.univ.filter (fun e => dst e = n), f e = ∑ k ∈ Finset.univ.filter (fun k => Valid k n), f (edge k n) := by
  refine Finset.sum_nbij' step (fun k => edge k n) (fun e he => ?_) (fun k hk => ?_) (fun e he => ?_) (fun k hk => ?_) (fun e he => ?_)
  · rw [Finset.mem_filter] at he ⊢
    exact ⟨Finset.mem_univ _, he.2 ▸ (edge_facts e).1⟩
  · rw [Finset.mem_filter] at hk ⊢
    exact ⟨Finset.mem_univ _, (edge_spec k n hk.2).1⟩
  · rw [Finset.mem_filter] at he
    rw [← he.2]; exact (edge_facts e).2
  · rw [Finset.mem_filter] at hk
    exact (edge_spec k n hk.2).2.1
  · rw [Finset.mem_filter] at he
    rw [← he.2, (edge_facts e).2]

/-- The greatest over the edges into `n` is the greatest over the valid places around it. -/
theorem sup_edges (f : Fin 388 → EReal) (n : Fin 80) :
    (Finset.univ.sup fun e => if dst e = n then f e else ⊥) = top5 fun k => if Valid k n then f (edge k n) else ⊥ := by
  refine le_antisymm (Finset.sup_le fun e _ => ?_) (Finset.sup_le fun k _ => ?_)
  · split
    · next he =>
      refine le_trans (le_of_eq ?_) (Finset.le_sup (f := fun k => if Valid k n then f (edge k n) else ⊥) (Finset.mem_univ (step e)))
      rw [← he, if_pos (edge_facts e).1, (edge_facts e).2]
    · exact bot_le
  · split
    · next hk =>
      refine le_trans (le_of_eq ?_) (Finset.le_sup (f := fun e => if dst e = n then f e else ⊥) (Finset.mem_univ (edge k n)))
      rw [if_pos (edge_spec k n hk).1]
    · exact bot_le

/-- A sum over the edges that are not loops of a number that depends on the kind alone. -/
theorem sum_kinds (f : Fin 3 → EReal) :
    ∑ e : Fin 308, f (kind (step (e.castLE (by decide)))) = word 0x431C0000#32 * f 0 + word 0x43180000#32 * f 2 := by
  rw [← Finset.sum_filter_add_sum_filter_not Finset.univ (fun e : Fin 308 => kind (step (e.castLE (by decide))) = 0)]
  rw [Finset.sum_congr rfl (g := fun _ => f 0) fun e he => by rw [(Finset.mem_filter.1 he).2],
    Finset.sum_congr (s₁ := Finset.univ.filter fun e : Fin 308 => ¬ kind (step (e.castLE (by decide))) = 0) rfl
      (g := fun _ => f 2) fun e he => by rw [kind_cases _ (Finset.mem_filter.1 he).2],
    Finset.sum_const, Finset.sum_const, kind_count.1, kind_count.2, EReal.nsmul_eq_mul, EReal.nsmul_eq_mul, word_156, word_152]
  norm_cast

end Cert.Edges

end
-- ==== Proof.Spec.lean ====
/- The network one graph goes through, as plain formulas on extended reals: the input projection, two attention
   layers over the eighty nodes, and the pooled output. -/
module

public import proofs.«01_k».proof.Proof.Edges

@[expose] public section

noncomputable section

namespace Cert.Spec

open Idealize.ShloMosaic Cert.Reals Cert.Edges

/-- Features of the eighty nodes of one graph. -/
abbrev Nodes := Fin 80 → Fin 512 → EReal

/-- The parameters of one attention layer and of the layer norm after it. -/
structure Layer where
  Wl : Fin 512 → Fin 512 → EReal
  bl : Fin 512 → EReal
  Wr : Fin 512 → Fin 512 → EReal
  br : Fin 512 → EReal
  We : Fin 4 → Fin 512 → EReal
  att : Fin 4 → Fin 128 → EReal
  bias : Fin 512 → EReal
  g : Fin 512 → EReal
  beta : Fin 512 → EReal

/-- The parameters of the whole network. -/
structure Net where
  types : Fin 2 → Fin 256 → EReal
  E : Fin 3 → Fin 4 → EReal
  W : Fin 256 → Fin 512 → EReal
  b : Fin 512 → EReal
  g : Fin 512 → EReal
  beta : Fin 512 → EReal
  L0 : Layer
  L1 : Layer
  Wo : Fin 1024 → Fin 128 → EReal
  bo : Fin 128 → EReal
  go : Fin 128 → EReal
  betao : Fin 128 → EReal

/-- A linear map of every node's features. -/
def lin (h : Nodes) (W : Fin 512 → Fin 512 → EReal) (b : Fin 512 → EReal) (n : Fin 80) (j : Fin 512) : EReal :=
  ∑ k, h n k * W k j + b j

/-- Feature `d` of head `hd`. -/
def col (hd : Fin 4) (d : Fin 128) : Fin 512 := ⟨hd.val * 128 + d.val, by omega⟩

/-- The head a feature belongs to. -/
def headOf (j : Fin 512) : Fin 4 := ⟨j.val / 128, by omega⟩

/-- The attributes of an edge at place `k`: of its kind, for a loop the mean of those of all edges. -/
def attr (E : Fin 3 → Fin 4 → EReal) (k : Fin 5) (c : Fin 4) : EReal :=
  if k = 2 then (word 0x431C0000#32 * E 0 c + word 0x43180000#32 * E 2 c) * ((308⁻¹ : ℝ) : EReal) else E (kind k) c

/-- What goes into the leaky rectifier on the edge from the node at place `k` around `n`. -/
def pre (P : Layer) (E : Fin 3 → Fin 4 → EReal) (h : Nodes) (n : Fin 80) (k : Fin 5) (j : Fin 512) : EReal :=
  lin h P.Wl P.bl (at5 k n) j + lin h P.Wr P.br n j + ∑ c, attr E k c * P.We c j

/-- The logit of that edge for a head. -/
def score (P : Layer) (E : Fin 3 → Fin 4 → EReal) (h : Nodes) (n : Fin 80) (hd : Fin 4) (k : Fin 5) : EReal :=
  ∑ d, leaky (pre P E h n k (col hd d)) * P.att hd d

/-- The five logits around a node, minus infinity where there is no edge. -/
def logits (P : Layer) (E : Fin 3 → Fin 4 → EReal) (h : Nodes) (n : Fin 80) (hd : Fin 4) (k : Fin 5) : EReal :=
  if Valid k n then score P E h n hd k else ⊥

/-- The attention layer with its residual. -/
def gat (P : Layer) (E : Fin 3 → Fin 4 → EReal) (h : Nodes) (n : Fin 80) (j : Fin 512) : EReal :=
  P.bias j + ∑ k, soft (logits P E h n (headOf j)) k * lin h P.Wl P.bl (at5 k n) j + h n j

/-- The attention layer, its residual and the layer norm. -/
def layer (P : Layer) (E : Fin 3 → Fin 4 → EReal) (h : Nodes) : Nodes :=
  fun n => norm (word 0x44000000#32) (gat P E h n) P.g P.beta

/-- The projected input of one graph. -/
def proj (M : Net) (x : Fin 80 → Fin 256 → EReal) (n : Fin 80) (j : Fin 512) : EReal :=
  ∑ k, (x n k + M.types (if n.val < 30 then 0 else 1) k) * M.W k j + M.b j

/-- The features the first attention layer reads. -/
def feat0 (M : Net) (x : Fin 80 → Fin 256 → EReal) : Nodes :=
  fun n j => gelu (norm (word 0x44000000#32) (proj M x n) M.g M.beta j)

/-- The features the second attention layer reads. -/
def feat1 (M : Net) (x : Fin 80 → Fin 256 → EReal) : Nodes :=
  fun n j => gelu (layer M.L0 M.E (feat0 M x) n j)

/-- The features that are pooled. -/
def feat2 (M : Net) (x : Fin 80 → Fin 256 → EReal) : Nodes := layer M.L1 M.E (feat1 M x)

/-- The output projection of the mean and the greatest over the nodes. -/
def pooled (M : Net) (h : Nodes) (o : Fin 128) : EReal :=
  ∑ k : Fin 512, Ideal.div (∑ n, h n k) (word 0x42A00000#32) * M.Wo (k.castLE (by decide)) o
    + ∑ k : Fin 512, (Finset.univ.fold max (word 0xFF800000#32) fun n => h n k) * M.Wo (k.natAdd 512) o + M.bo o

/-- The network's output for one graph. -/
def out (M : Net) (x : Fin 80 → Fin 256 → EReal) (o : Fin 128) : EReal :=
  gelu (norm (word 0x43000000#32) (pooled M (feat2 M x)) M.go M.betao o)

end Cert.Spec

end
-- ==== Proof.KerLayer.lean ====
/- One attention layer of the kernel over a tile of sixteen graphs, as a function of the vectors it reads, and its
   value at an index. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.KerLayer

open Idealize.ShloMosaic Idealize.ShloMosaic.TcCoe Cert.KernelIdeal Cert.KernelIdeal.Gen Cert.Reals Cert.Edges Cert.Spec

/-- The tile row of node `n` of the tile's graph `q`. -/
def row (q : Fin 16) (n : Fin 80) : Fin 1280 := ⟨q.val * 80 + n.val, by omega⟩

/-- Features of the tile's graph `q`. -/
abbrev nodes (h : FVec Ideal S1280x512 .f32) (q : Fin 16) : Nodes := fun n j => h (ix2 (row q n) j)

/-! ## The layer's pieces -/

/-- Both linear maps of the features at once. -/
def both (h : FVec Ideal S1280x512 .f32) (W : FVec Ideal S512x1024 .f32) (b : FVec Ideal S1x1024 .f32) : FVec Ideal S1280x1024 .f32 :=
  addf (matmul dot_S1280x512_S512x1024_S1280x1024_1_0_0_1_n_n none h (shapeCast S512x1024 W shapeCasts_S512x1024_S512x1024) (constant S1280x1024 .f32 0x00000000#32))
    (broadcastTo S1280x1024 (shapeCast S1x1024 b shapeCasts_S1x1024_S1x1024) broadcasts_S1x1024_S1280x1024)

/-- The sources' features. -/
def left (h : FVec Ideal S1280x512 .f32) (W : FVec Ideal S512x1024 .f32) (b : FVec Ideal S1x1024 .f32) : FVec Ideal S1280x512 .f32 :=
  extractStridedSlice S1280x512 ![0, 0] (both h W b) slices_S1280x1024_o0_0_S1280x512

/-- The targets' features. -/
def right (h : FVec Ideal S1280x512 .f32) (W : FVec Ideal S512x1024 .f32) (b : FVec Ideal S1x1024 .f32) : FVec Ideal S1280x512 .f32 :=
  extractStridedSlice S1280x512 ![0, 512] (both h W b) slices_S1280x1024_o0_512_S1280x512

/-- The tile rolled so that every row holds the row `k - 2` places after it. -/
def roll (x : FVec Ideal S1280x512 .f32) : Fin 5 → FVec Ideal S1280x512 .f32
  | 0 => concatenate S1280x512 0 [⟨S2x512, extractStridedSlice S2x512 ![1278, 0] x slices_S1280x512_o1278_0_S2x512⟩, ⟨S1278x512, extractStridedSlice S1278x512 ![0, 0] x slices_S1280x512_o0_0_S1278x512⟩] concatenates_S2x512_S1278x512_S1280x512_d0
  | 1 => concatenate S1280x512 0 [⟨S1x512, extractStridedSlice S1x512 ![1279, 0] x slices_S1280x512_o1279_0_S1x512⟩, ⟨S1279x512, extractStridedSlice S1279x512 ![0, 0] x slices_S1280x512_o0_0_S1279x512⟩] concatenates_S1x512_S1279x512_S1280x512_d0
  | 2 => x
  | 3 => concatenate S1280x512 0 [⟨S1279x512, extractStridedSlice S1279x512 ![1, 0] x slices_S1280x512_o1_0_S1279x512⟩, ⟨S1x512, extractStridedSlice S1x512 ![0, 0] x slices_S1280x512_o0_0_S1x512⟩] concatenates_S1279x512_S1x512_S1280x512_d0
  | 4 => concatenate S1280x512 0 [⟨S1278x512, extractStridedSlice S1278x512 ![2, 0] x slices_S1280x512_o2_0_S1278x512⟩, ⟨S2x512, extractStridedSlice S2x512 ![0, 0] x slices_S1280x512_o0_0_S2x512⟩] concatenates_S1278x512_S2x512_S1280x512_d0

/-- The projected attributes of the edges at place `k`. -/
def erow (ev : FVec Ideal S3x512 .f32) : Fin 5 → FVec Ideal S1x512 .f32
  | 0 => extractStridedSlice S1x512 ![1, 0] ev slices_S3x512_o1_0_S1x512
  | 1 => extractStridedSlice S1x512 ![0, 0] ev slices_S3x512_o0_0_S1x512
  | 2 => extractStridedSlice S1x512 ![2, 0] ev slices_S3x512_o2_0_S1x512
  | 3 => extractStridedSlice S1x512 ![0, 0] ev slices_S3x512_o0_0_S1x512
  | 4 => extractStridedSlice S1x512 ![1, 0] ev slices_S3x512_o1_0_S1x512

/-- The offset of place `k` as a word. -/
def off : Fin 5 → BitVec 32
  | 0 => 4294967294#32
  | 1 => 4294967295#32
  | 2 => 0#32
  | 3 => 1#32
  | 4 => 2#32

/-- Whether the node at offset `o` exists and lies in the row's chain. -/
def mask (rm : IVec S1280x1 32) (o : BitVec 32) : IVec S1280x1 1 :=
  andi (andi (cmpi .sge (addi rm (broadcast S1280x1 o)) (broadcast S1280x1 0#32)) (cmpi .slt (addi rm (broadcast S1280x1 o)) (broadcast S1280x1 80#32)))
    (xori (xori (cmpi .sge (addi rm (broadcast S1280x1 o)) (broadcast S1280x1 30#32)) (cmpi .sge rm (broadcast S1280x1 30#32))) (constantI S1280x1 1 1#1))

/-- The leaky rectifier of the sum of features and attributes. -/
def rect (xs xr : FVec Ideal S1280x512 .f32) (e : FVec Ideal S1x512 .f32) : FVec Ideal S1280x512 .f32 :=
  select (cmpf .oge (addf (addf xs xr) (broadcastTo S1280x512 e broadcasts_S1x512_S1280x512)) (broadcast S1280x512 (FloatOps.ofBits .f32 0x00000000#32)))
    (addf (addf xs xr) (broadcastTo S1280x512 e broadcasts_S1x512_S1280x512))
    (mulf (broadcast S1280x512 (FloatOps.ofBits .f32 0x3E4CCCCD#32)) (addf (addf xs xr) (broadcastTo S1280x512 e broadcasts_S1x512_S1280x512)))

/-- The masked logits of one place. -/
def logit (rm : IVec S1280x1 32) (A : FVec Ideal S512x4 .f32) (o : BitVec 32) (xs xr : FVec Ideal S1280x512 .f32) (e : FVec Ideal S1x512 .f32) : FVec Ideal S1280x4 .f32 :=
  select (broadcastTo S1280x4 (shapeCast S1280x1 (mask rm o) shapeCasts_S1280x1_S1280x1) broadcasts_S1280x1_S1280x4)
    (matmul dot_S1280x512_S512x4_S1280x4_1_0_0_1_n_n none (rect xs xr e) A (constant S1280x4 .f32 0x00000000#32))
    (broadcast S1280x4 (Named.named κ "neg" 0xF149F2CA#32))

/-- The greatest of the five logits. -/
def greatest (l : Fin 5 → FVec Ideal S1280x4 .f32) : FVec Ideal S1280x4 .f32 :=
  maximumf (maximumf (maximumf (maximumf (l 0) (l 1)) (l 2)) (l 3)) (l 4)

/-- The exponential of a shifted logit. -/
def expo (l : Fin 5 → FVec Ideal S1280x4 .f32) (k : Fin 5) : FVec Ideal S1280x4 .f32 := exp (subf (l k) (greatest l))

/-- The denominator. -/
def deno (l : Fin 5 → FVec Ideal S1280x4 .f32) : FVec Ideal S1280x4 .f32 :=
  addf (addf (addf (addf (addf (expo l 0) (expo l 1)) (expo l 2)) (expo l 3)) (expo l 4)) (broadcast S1280x4 (FloatOps.ofBits .f32 0x24E69595#32))

/-- The weights of one place, spread over the features of the heads. -/
def weight (l : Fin 5 → FVec Ideal S1280x4 .f32) (S : FVec Ideal S4x512 .f32) (k : Fin 5) : FVec Ideal S1280x512 .f32 :=
  matmul dot_S1280x4_S4x512_S1280x512_1_0_0_1_n_n none (divf (expo l k) (deno l)) S (constant S1280x512 .f32 0x00000000#32)

/-- The weighted sum over the places, with bias and residual. -/
def total (l : Fin 5 → FVec Ideal S1280x4 .f32) (S : FVec Ideal S4x512 .f32) (x : Fin 5 → FVec Ideal S1280x512 .f32) (bias : FVec Ideal S1x512 .f32)
    (h : FVec Ideal S1280x512 .f32) : FVec Ideal S1280x512 .f32 :=
  addf (addf (addf (addf (addf (addf (broadcastTo S1280x512 (shapeCast S1x512 bias shapeCasts_S1x512_S1x512) broadcasts_S1x512_S1280x512)
    (mulf (weight l S 0) (x 0))) (mulf (weight l S 1) (x 1))) (mulf (weight l S 2) (x 2))) (mulf (weight l S 3) (x 3))) (mulf (weight l S 4) (x 4))) h

/-- The projected attributes. -/
def attrs (EA : FVec Ideal S3x4 .f32) (We : FVec Ideal S4x512 .f32) : FVec Ideal S3x512 .f32 :=
  matmul dot_S3x4_S4x512_S3x512_1_0_0_1_n_n none EA We (constant S3x512 .f32 0x00000000#32)

/-- The attention layer with its residual. -/
def attn (rm : IVec S1280x1 32) (EA : FVec Ideal S3x4 .f32) (h : FVec Ideal S1280x512 .f32) (W : FVec Ideal S512x1024 .f32) (b : FVec Ideal S1x1024 .f32)
    (We : FVec Ideal S4x512 .f32) (A : FVec Ideal S512x4 .f32) (S : FVec Ideal S4x512 .f32) (bias : FVec Ideal S1x512 .f32) : FVec Ideal S1280x512 .f32 :=
  total (fun k => logit rm (shapeCast S512x4 A shapeCasts_S512x4_S512x4) (off k) (roll (left h W b) k) (right h W b) (erow (attrs EA We) k))
    (shapeCast S4x512 S shapeCasts_S4x512_S4x512) (roll (left h W b)) bias h

/-- The layer norm over the features. -/
def normed (x : FVec Ideal S1280x512 .f32) (g b : FVec Ideal S1x512 .f32) : FVec Ideal S1280x512 .f32 :=
  let mu := divf (shapeCast S1280x1 (multiReduction .add [1] S1280 x 0x00000000#32 reduces_S1280x512_S1280 (.inl rfl) rfl) shapeCasts_S1280_S1280x1) (broadcast S1280x1 (FloatOps.ofBits .f32 0x44000000#32))
  let xc := subf x (broadcastTo S1280x512 mu broadcasts_S1280x1_S1280x512)
  let var := divf (shapeCast S1280x1 (multiReduction .add [1] S1280 (mulf xc xc) 0x00000000#32 reduces_S1280x512_S1280 (.inl rfl) rfl) shapeCasts_S1280_S1280x1) (broadcast S1280x1 (FloatOps.ofBits .f32 0x44000000#32))
  addf (mulf (mulf xc (broadcastTo S1280x512 (rsqrt (addf var (broadcast S1280x1 (FloatOps.ofBits .f32 0x3727C5AC#32)))) broadcasts_S1280x1_S1280x512))
    (broadcastTo S1280x512 (shapeCast S1x512 g shapeCasts_S1x512_S1x512) broadcasts_S1x512_S1280x512))
    (broadcastTo S1280x512 (shapeCast S1x512 b shapeCasts_S1x512_S1x512) broadcasts_S1x512_S1280x512)

/-- The gelu of all features. -/
def activated (y : FVec Ideal S1280x512 .f32) : FVec Ideal S1280x512 .f32 :=
  mulf (mulf (broadcast S1280x512 (FloatOps.ofBits .f32 0x3F000000#32)) y)
    (addf (broadcast S1280x512 (FloatOps.ofBits .f32 0x3F800000#32)) (erf (mulf y (broadcast S1280x512 (FloatOps.ofBits .f32 0x3F3504F3#32)))))

/-! ## Values at an index -/

/-- The constant that stands for minus infinity. -/
theorem neg_bot : Named.named (F := Ideal) κ "neg" (φ := .f32) 0xF149F2CA#32 = (⊥ : EReal) :=
  IdealRules.named_const.ideal_named_scalar _ _ _ _ rfl

/-- A row's number modulo eighty is its node's. -/
theorem rows_at (q : Fin 16) (n : Fin 80) : k0_pay2 (ix2 (row q n) 0) = BitVec.ofNat 32 n := by
  pointwise [k0_pay2]
  exact (by decide +kernel : ∀ q : Fin 16, ∀ n : Fin 80, Scalar.select
      (IntOp.andi
        (IntOp.xori
          (IntOp.cmpi CmpIPredicate.slt
            (IntOp.remsi ArithUnit.vector (BitVec.ofNat 32 ↑(row q n))
              (Scalar.select (Scalar.cmpi CmpIPredicate.eq 80#32 0#32) 1#32 80#32))
            0#32)
          (Scalar.cmpi CmpIPredicate.slt (Scalar.select (Scalar.cmpi CmpIPredicate.eq 80#32 0#32) 1#32 80#32) 0#32))
        (IntOp.cmpi CmpIPredicate.ne
          (IntOp.remsi ArithUnit.vector (BitVec.ofNat 32 ↑(row q n))
            (Scalar.select (Scalar.cmpi CmpIPredicate.eq 80#32 0#32) 1#32 80#32))
          0#32))
      (IntOp.addi
        (IntOp.remsi ArithUnit.vector (BitVec.ofNat 32 ↑(row q n))
          (Scalar.select (Scalar.cmpi CmpIPredicate.eq 80#32 0#32) 1#32 80#32))
        (Scalar.select (Scalar.cmpi CmpIPredicate.eq 80#32 0#32) 1#32 80#32))
      (IntOp.remsi ArithUnit.vector (BitVec.ofNat 32 ↑(row q n))
        (Scalar.select (Scalar.cmpi CmpIPredicate.eq 80#32 0#32) 1#32 80#32)) = BitVec.ofNat 32 n) q n

/-- The mask marks the valid places. -/
theorem mask_at (rm : IVec S1280x1 32) (q : Fin 16) (n : Fin 80) (hrm : rm (ix2 (row q n) 0) = BitVec.ofNat 32 n) (k : Fin 5) :
    mask rm (off k) (ix2 (row q n) 0) = BitVec.ofBool (decide (Valid k n)) := by
  pointwise [mask]
  rw [hrm]
  exact (by decide +kernel : ∀ k : Fin 5, ∀ n : Fin 80, IntOp.andi
      (IntOp.andi (IntOp.cmpi CmpIPredicate.sge (IntOp.addi (BitVec.ofNat 32 ↑n) (off k)) 0#32)
        (IntOp.cmpi CmpIPredicate.slt (IntOp.addi (BitVec.ofNat 32 ↑n) (off k)) 80#32))
      (IntOp.xori
        (IntOp.xori (IntOp.cmpi CmpIPredicate.sge (IntOp.addi (BitVec.ofNat 32 ↑n) (off k)) 30#32)
          (IntOp.cmpi CmpIPredicate.sge (BitVec.ofNat 32 ↑n) 30#32))
        1#1) = BitVec.ofBool (decide (Valid k n))) k n

/-- At a valid place the rolled tile holds the source's row. -/
theorem roll_at (x : FVec Ideal S1280x512 .f32) (q : Fin 16) (n : Fin 80) (k : Fin 5) (hk : Valid k n) (j : Fin 512) :
    roll x k (ix2 (row q n) j) = nodes x q (at5 k n) j := by
  obtain ⟨lo, hi, -⟩ := hk
  match k, lo, hi with
  | 0, lo, hi =>
    have lo : 2 ≤ n.val + 0 := lo
    pointwise [roll]
    refine (dif_neg (show ¬ q.val * 80 + n.val < 2 by omega)).trans ?_
    exact congrArg (fun r => x (ix2 r j)) (Fin.ext (show q.val * 80 + n.val - 2 = q.val * 80 + (n.val + 0 + 78) % 80 by omega))
  | 1, lo, hi =>
    have lo : 2 ≤ n.val + 1 := lo
    pointwise [roll]
    refine (dif_neg (show ¬ q.val * 80 + n.val < 1 by omega)).trans ?_
    exact congrArg (fun r => x (ix2 r j)) (Fin.ext (show q.val * 80 + n.val - 1 = q.val * 80 + (n.val + 1 + 78) % 80 by omega))
  | 2, _, _ =>
    exact congrArg (fun r => x (ix2 r j)) (Fin.ext (show q.val * 80 + n.val = q.val * 80 + (n.val + 2 + 78) % 80 by omega))
  | 3, lo, hi =>
    have hi : n.val + 3 < 82 := hi
    pointwise [roll]
    refine (dif_pos (show q.val * 80 + n.val < 1279 by omega)).trans ?_
    exact congrArg (fun r => x (ix2 r j)) (Fin.ext (show 1 + (q.val * 80 + n.val) = q.val * 80 + (n.val + 3 + 78) % 80 by omega))
  | 4, lo, hi =>
    have hi : n.val + 4 < 82 := hi
    pointwise [roll]
    refine (dif_pos (show q.val * 80 + n.val < 1278 by omega)).trans ?_
    exact congrArg (fun r => x (ix2 r j)) (Fin.ext (show 2 + (q.val * 80 + n.val) = q.val * 80 + (n.val + 4 + 78) % 80 by omega))

/-- Both linear maps at an index. -/
theorem left_at (h : FVec Ideal S1280x512 .f32) (W : FVec Ideal S512x1024 .f32) (b : FVec Ideal S1x1024 .f32) (q : Fin 16) (n : Fin 80) (j : Fin 512) :
    left h W b (ix2 (row q n) j) = lin (nodes h q) (fun k j => W (ix2 k (j.castLE (by decide)))) (fun j => b (ix2 0 (j.castLE (by decide)))) n j := by
  pointwise [left, both]
  rfl

/-- The target side's linear map at a node. -/
theorem right_at (h : FVec Ideal S1280x512 .f32) (W : FVec Ideal S512x1024 .f32) (b : FVec Ideal S1x1024 .f32) (q : Fin 16) (n : Fin 80) (j : Fin 512) :
    right h W b (ix2 (row q n) j) = lin (nodes h q) (fun k j => W (ix2 k (j.natAdd 512))) (fun j => b (ix2 0 (j.natAdd 512))) n j := by
  pointwise [right, both]
  rfl

/-- The layer norm at a node. -/
theorem normed_at (x : FVec Ideal S1280x512 .f32) (g b : FVec Ideal S1x512 .f32) (q : Fin 16) (n : Fin 80) (j : Fin 512) :
    normed x g b (ix2 (row q n) j) = norm (word 0x44000000#32) (nodes x q n) (fun j => g (ix2 0 j)) (fun j => b (ix2 0 j)) j := by
  rw [← norm_rsqrt word_512 (by norm_num)]
  pointwise [normed]
  rfl

/-- The gelu at a node. -/
theorem activated_at (x : FVec Ideal S1280x512 .f32) (q : Fin 16) (n : Fin 80) (j : Fin 512) :
    activated x (ix2 (row q n) j) = gelu (x (ix2 (row q n) j)) := by
  rw [← gelu_erf]
  pointwise [activated]
  rfl

/-- The projected attributes of a place. -/
theorem erow_at (ev : FVec Ideal S3x512 .f32) (k : Fin 5) (j : Fin 512) :
    erow ev k (ix2 0 j) = ev (ix2 (![1, 0, 2, 0, 1] k) j) := by
  fin_cases k <;> (pointwise [erow] ; try rfl)

/-- A sum over the features that picks one head's. -/
theorem sum_head (f : Fin 512 → EReal) (a : Fin 4 → Fin 128 → EReal) (hd : Fin 4) :
    ∑ k, f k * (if headOf k = hd then a hd ⟨k.val % 128, Nat.mod_lt _ (by decide)⟩ else 0) = ∑ d, f (col hd d) * a hd d := by
  simp only [mul_ite, mul_zero]
  rw [← Finset.sum_filter]
  symm
  refine Finset.sum_bij (fun d _ => col hd d) (fun d _ => ?_) (fun d _ d' _ h => ?_) (fun k hk => ?_) (fun d _ => ?_)
  · refine Finset.mem_filter.2 ⟨Finset.mem_univ _, Fin.ext ?_⟩
    show (hd.val * 128 + d.val) / 128 = hd.val
    omega
  · have := Fin.ext_iff.1 h
    simp only [col] at this
    exact Fin.ext (by omega)
  · have hk := Fin.ext_iff.1 (Finset.mem_filter.1 hk).2
    simp only [headOf] at hk
    exact ⟨⟨k.val % 128, Nat.mod_lt _ (by decide)⟩, Finset.mem_univ _, Fin.ext (by simp only [col]; omega)⟩
  · congr 2
    exact Fin.ext (by simp only [col]; omega)

/-- The layer's logits at an index. -/
theorem logit_at (rm : IVec S1280x1 32) (A : FVec Ideal S512x4 .f32) (xs xr : FVec Ideal S1280x512 .f32) (e : FVec Ideal S1x512 .f32)
    (q : Fin 16) (n : Fin 80) (hrm : rm (ix2 (row q n) 0) = BitVec.ofNat 32 n) (k : Fin 5) (hd : Fin 4) (a : Fin 4 → Fin 128 → EReal)
    (hA : ∀ j hd, A (ix2 j hd) = if headOf j = hd then a hd ⟨j.val % 128, Nat.mod_lt _ (by decide)⟩ else 0) :
    logit rm A (off k) xs xr e (ix2 (row q n) hd) = if Valid k n
      then ∑ d, leaky (xs (ix2 (row q n) (col hd d)) + xr (ix2 (row q n) (col hd d)) + e (ix2 0 (col hd d))) * a hd d else ⊥ := by
  rw [← sum_head (fun j => leaky (xs (ix2 (row q n) j) + xr (ix2 (row q n) j) + e (ix2 0 j))) a hd]
  have hread : logit rm A (off k) xs xr e (ix2 (row q n) hd) = Scalar.select (mask rm (off k) (ix2 (row q n) 0))
      (∑ j, leaky (xs (ix2 (row q n) j) + xr (ix2 (row q n) j) + e (ix2 0 j)) * A (ix2 j hd)) (Named.named (F := Ideal) κ "neg" (φ := .f32) 0xF149F2CA#32) := by
    pointwise [logit, rect]
    rfl
  rw [hread, mask_at rm q n hrm k, neg_bot]
  simp only [hA]
  by_cases hk : Valid k n
  · rw [if_pos hk, decide_eq_true hk]
    rfl
  · rw [if_neg hk, decide_eq_false hk]
    rfl

/-- The weight of a place is the soft maximum's value for the feature's head. -/
theorem weight_at (l : Fin 5 → FVec Ideal S1280x4 .f32) (S : FVec Ideal S4x512 .f32)
    (hS : ∀ i j, S (ix2 i j) = if headOf j = i then 1 else 0) (k : Fin 5) (r : Fin 1280) (j : Fin 512) :
    weight l S k (ix2 r j) = soft (fun k => l k (ix2 r (headOf j))) k := by
  have hsum : weight l S k (ix2 r j) = ∑ x, Ideal.div (expo l k (ix2 r x)) (deno l (ix2 r x)) * S (ix2 x j) := by
    pointwise [weight]
  have hexp : ∀ k x, expo l k (ix2 r x) = Ideal.exp (l k (ix2 r x) - top5 fun k => l k (ix2 r x)) := fun k x => by
    rw [top5_eq]
    pointwise [expo, greatest]
  rw [hsum, Finset.sum_eq_single (headOf j) (fun x _ hx => by rw [hS, if_neg (Ne.symm hx), mul_zero]) (fun h => absurd (Finset.mem_univ _) h),
    hS, if_pos rfl, mul_one, hexp]
  have hden : deno l (ix2 r (headOf j)) = ∑ i, Ideal.exp (l i (ix2 r (headOf j)) - top5 fun k => l k (ix2 r (headOf j))) + word 0x24E69595#32 := by
    rw [Fin.sum_univ_five, ← hexp, ← hexp, ← hexp, ← hexp, ← hexp]
    pointwise [deno]
  rw [hden]
  rfl

/-- The layer's sum at an index. -/
theorem total_at (l : Fin 5 → FVec Ideal S1280x4 .f32) (S : FVec Ideal S4x512 .f32) (x : Fin 5 → FVec Ideal S1280x512 .f32) (bias : FVec Ideal S1x512 .f32)
    (h : FVec Ideal S1280x512 .f32) (hS : ∀ i j, S (ix2 i j) = if headOf j = i then 1 else 0) (r : Fin 1280) (j : Fin 512) :
    total l S x bias h (ix2 r j) = bias (ix2 0 j) + ∑ k, soft (fun k => l k (ix2 r (headOf j))) k * x k (ix2 r j) + h (ix2 r j) := by
  have hread : total l S x bias h (ix2 r j) = bias (ix2 0 j) + weight l S 0 (ix2 r j) * x 0 (ix2 r j) + weight l S 1 (ix2 r j) * x 1 (ix2 r j)
      + weight l S 2 (ix2 r j) * x 2 (ix2 r j) + weight l S 3 (ix2 r j) * x 3 (ix2 r j) + weight l S 4 (ix2 r j) * x 4 (ix2 r j) + h (ix2 r j) := by
    pointwise [total]
  rw [hread, Fin.sum_univ_five]
  simp only [weight_at l S hS, add_assoc]

/-- The layer with its residual is the mathematics' attention. -/
theorem attn_at (rm : IVec S1280x1 32) (EA : FVec Ideal S3x4 .f32) (h : FVec Ideal S1280x512 .f32) (W : FVec Ideal S512x1024 .f32) (b : FVec Ideal S1x1024 .f32)
    (We : FVec Ideal S4x512 .f32) (A : FVec Ideal S512x4 .f32) (S : FVec Ideal S4x512 .f32) (bias : FVec Ideal S1x512 .f32)
    (P : Layer) (E : Fin 3 → Fin 4 → EReal) (q : Fin 16) (n : Fin 80) (j : Fin 512)
    (hrm : rm (ix2 (row q n) 0) = BitVec.ofNat 32 n)
    (hEA : ∀ k c, EA (ix2 (![1, 0, 2, 0, 1] k) c) = attr E k c)
    (hWl : ∀ k j : Fin 512, W (ix2 k (j.castLE (by decide))) = P.Wl k j) (hbl : ∀ j : Fin 512, b (ix2 0 (j.castLE (by decide))) = P.bl j)
    (hWr : ∀ k j : Fin 512, W (ix2 k (j.natAdd 512)) = P.Wr k j) (hbr : ∀ j : Fin 512, b (ix2 0 (j.natAdd 512)) = P.br j)
    (hWe : ∀ c j, We (ix2 c j) = P.We c j)
    (hA : ∀ j hd, A (ix2 j hd) = if headOf j = hd then P.att hd ⟨j.val % 128, Nat.mod_lt _ (by decide)⟩ else 0)
    (hS : ∀ i j, S (ix2 i j) = if headOf j = i then 1 else 0) (hbias : ∀ j, bias (ix2 0 j) = P.bias j) :
    attn rm EA h W b We A S bias (ix2 (row q n) j) = gat P E (nodes h q) n j := by
  have hl : ∀ n j, left h W b (ix2 (row q n) j) = lin (nodes h q) P.Wl P.bl n j := fun n j => by
    rw [left_at]
    simp only [hWl, hbl]
  have hr : ∀ j, right h W b (ix2 (row q n) j) = lin (nodes h q) P.Wr P.br n j := fun j => by
    rw [right_at]
    simp only [hWr, hbr]
  have he : ∀ k j, erow (attrs EA We) k (ix2 0 j) = ∑ c, attr E k c * P.We c j := fun k j => by
    rw [erow_at]
    simp only [← hEA, ← hWe]
    pointwise [attrs]
  have hlog : ∀ k hd, logit rm (shapeCast S512x4 A shapeCasts_S512x4_S512x4) (off k) (roll (left h W b) k) (right h W b) (erow (attrs EA We) k) (ix2 (row q n) hd)
      = logits P E (nodes h q) n hd k := fun k hd => by
    rw [logit_at rm _ _ _ _ q n hrm k hd P.att (fun j hd => by rw [← hA]; pointwise)]
    unfold logits
    by_cases hk : Valid k n
    · rw [if_pos hk, if_pos hk]
      refine Finset.sum_congr rfl fun d _ => ?_
      rw [roll_at _ q n k hk, hr, he]
      show leaky (left h W b (ix2 (row q (at5 k n)) _) + _ + _) * _ = _
      rw [hl]
      rfl
    · rw [if_neg hk, if_neg hk]
  unfold attn
  rw [total_at _ _ _ _ _ (fun i j => by rw [← hS]; pointwise)]
  simp only [hlog, hbias]
  unfold gat
  congr 2
  refine Finset.sum_congr rfl fun k _ => ?_
  by_cases hk : Valid k n
  · rw [roll_at _ q n k hk]
    show _ * left h W b (ix2 (row q (at5 k n)) _) = _
    rw [hl]
  · have h0 : soft (logits P E (nodes h q) n (headOf j)) k = 0 := soft_bot _ _ (by unfold logits; rw [if_neg hk])
    show soft (logits P E (nodes h q) n (headOf j)) k * _ = _
    rw [h0, zero_mul, zero_mul]

end Cert.KerLayer

end
-- ==== Proof.KerTile.lean ====
/- What one grid step of the kernel computes from its blocks: the two attention layers and the pooled output. -/
module

public import proofs.«01_k».proof.Proof.KerLayer
public import proofs.«01_k».proof.Proof.KernelIdealBody
public import Idealize.ShloMosaic.Lib.Pipeline.ValueKit

@[expose] public section

set_option maxRecDepth 16384

noncomputable section

namespace Cert.KerTile

open Idealize.ShloMosaic Idealize.ShloMosaic.TcCoe Cert.KernelIdeal Cert.KernelIdeal.Gen Cert.KernelIdeal.Body Cert.Reals Cert.Edges Cert.Spec Cert.KerLayer

variable (x : Ins Ideal)

/-- The first features: projection, norm and gelu. -/
def h0 : FVec Ideal S1280x512 .f32 :=
  activated (normed (k0_pay3 (View.ld x.x0 r0_0) (View.ld x.x1 r0_1) (View.ld x.x1 r0_2) (View.ld x.x3 r0_3) (View.ld x.x4 r0_4)) (View.ld x.x5 r0_4) (View.ld x.x6 r0_4))

/-- The attributes of the three kinds of edges. -/
def kinds : FVec Ideal S3x4 .f32 :=
  k0_pay6 (View.ld x.x2 r0_5) (View.ld x.x2 r0_6) (k0_pay5 (View.ld x.x2 r0_5) (View.ld x.x2 r0_6))

/-- The features after the first attention layer. -/
def h1 : FVec Ideal S1280x512 .f32 :=
  activated (normed (attn k0_pay2 (kinds x) (h0 x) (View.ld x.x7 r0_7) (View.ld x.x8 r0_8) (View.ld x.x9 r0_9) (View.ld x.x10 r0_10) (View.ld x.x11 r0_9) (View.ld x.x12 r0_4))
    (View.ld x.x13 r0_4) (View.ld x.x14 r0_4))

/-- The sums of the second attention layer, before its norm. -/
def y2 : FVec Ideal S1280x512 .f32 :=
  attn k0_pay2 (kinds x) (h1 x) (View.ld x.x15 r0_7) (View.ld x.x16 r0_8) (View.ld x.x17 r0_9) (View.ld x.x18 r0_10) (View.ld x.x19 r0_9) (View.ld x.x20 r0_4)

/-- The block's features after the input projection, its norm and gelu. -/
theorem v71_eq : val_v71 x = h0 x := rfl

/-- The attributes of the three kinds of edges in the block. -/
theorem v81_eq : val_v81 x = kinds x := rfl

/-- The block's features after the first attention layer. -/
theorem v318_eq : val_v318 x = h1 x := rfl

/-- The block's features after the second attention layer. -/
theorem v521_eq : val_v521 x = y2 x := rfl

/-- Mean and maximum over the nodes, projected. -/
def pool (h : FVec Ideal S1280x512 .f32) (W : FVec Ideal S1024x128 .f32) (b : FVec Ideal S1x128 .f32) : FVec Ideal S16x128 .f32 :=
  let v := shapeCast S16x80x512 h shapeCasts_S1280x512_S16x80x512
  addf (matmul dot_S16x1024_S1024x128_S16x128_1_0_0_1_n_n none
      (concatenate S16x1024 1 [⟨S16x512, divf (multiReduction .add [1] S16x512 v 0x00000000#32 reduces_S16x80x512_S16x512 (.inl rfl) rfl) (broadcast S16x512 (FloatOps.ofBits .f32 0x42A00000#32))⟩,
        ⟨S16x512, multiReduction .maximumf [1] S16x512 v 0xFF800000#32 reduces_S16x80x512_S16x512 (.inl rfl) rfl⟩] concatenates_S16x512_S16x512_S16x1024_d1)
      W (constant S16x128 .f32 0x00000000#32))
    (broadcastTo S16x128 (shapeCast S1x128 b shapeCasts_S1x128_S1x128) broadcasts_S1x128_S16x128)

/-- The norm over the outputs. -/
def outNorm (v : FVec Ideal S16x128 .f32) (g b : FVec Ideal S1x128 .f32) : FVec Ideal S16x128 .f32 :=
  let mu := divf (shapeCast S16x1 (multiReduction .add [1] S16 v 0x00000000#32 reduces_S16x128_S16 (.inl rfl) rfl) shapeCasts_S16_S16x1) (broadcast S16x1 (FloatOps.ofBits .f32 0x43000000#32))
  let xc := subf v (broadcastTo S16x128 mu broadcasts_S16x1_S16x128)
  let var := divf (shapeCast S16x1 (multiReduction .add [1] S16 (mulf xc xc) 0x00000000#32 reduces_S16x128_S16 (.inl rfl) rfl) shapeCasts_S16_S16x1) (broadcast S16x1 (FloatOps.ofBits .f32 0x43000000#32))
  addf (mulf (mulf xc (broadcastTo S16x128 (rsqrt (addf var (broadcast S16x1 (FloatOps.ofBits .f32 0x3727C5AC#32)))) broadcasts_S16x1_S16x128))
    (broadcastTo S16x128 (shapeCast S1x128 g shapeCasts_S1x128_S1x128) broadcasts_S1x128_S16x128))
    (broadcastTo S16x128 (shapeCast S1x128 b shapeCasts_S1x128_S1x128) broadcasts_S1x128_S16x128)

/-- The gelu of the outputs. -/
def outGelu (y : FVec Ideal S16x128 .f32) : FVec Ideal S16x128 .f32 :=
  mulf (mulf (broadcast S16x128 (FloatOps.ofBits .f32 0x3F000000#32)) y)
    (addf (broadcast S16x128 (FloatOps.ofBits .f32 0x3F800000#32)) (erf (mulf y (broadcast S16x128 (FloatOps.ofBits .f32 0x3F3504F3#32)))))

/-- The value the step stores. -/
def stored : FVec Ideal S16x128 .f32 :=
  outGelu (outNorm (pool (normed (y2 x) (View.ld x.x21 r0_4) (View.ld x.x22 r0_4)) (View.ld x.x23 r0_11) (View.ld x.x24 r0_12)) (View.ld x.x25 r0_12) (View.ld x.x26 r0_12))

/-- The block a grid point writes back. -/
theorem outBlock_eq : outBlock x = View.canon [⟨r0_13, stored x⟩] := rfl

/-- The pooling and output projection of graph `q` of the block. -/
theorem pool_at (h : FVec Ideal S1280x512 .f32) (W : FVec Ideal S1024x128 .f32) (b : FVec Ideal S1x128 .f32) (M : Net) (q : Fin 16) (o : Fin 128)
    (hW : ∀ k o, W (ix2 k o) = M.Wo k o) (hb : ∀ o, b (ix2 0 o) = M.bo o) :
    pool h W b (ix2 q o) = pooled M (nodes h q) o := by
  unfold pooled
  simp only [← hW, ← hb]
  pointwise [pool]
  rfl

/-- The norm over the outputs of graph `q`. -/
theorem outNorm_at (v : FVec Ideal S16x128 .f32) (g b : FVec Ideal S1x128 .f32) (q : Fin 16) (o : Fin 128) :
    outNorm v g b (ix2 q o) = norm (word 0x43000000#32) (fun o => v (ix2 q o)) (fun j => g (ix2 0 j)) (fun j => b (ix2 0 j)) o := by
  rw [← norm_rsqrt word_128 (by norm_num)]
  pointwise [outNorm]
  rfl

/-- The last gelu, entry by entry. -/
theorem outGelu_at (v : FVec Ideal S16x128 .f32) (q : Fin 16) (o : Fin 128) : outGelu v (ix2 q o) = gelu (v (ix2 q o)) := by
  rw [← gelu_erf]
  pointwise [outGelu]
  rfl

/-- The input projection. -/
theorem proj_at (x0 : FVec Ideal S16x80x256 .f32) (t0 t1 : FVec Ideal S1x256 .f32) (W : FVec Ideal S256x512 .f32) (b : FVec Ideal S1x512 .f32)
    (M : Net) (q : Fin 16) (n : Fin 80) (j : Fin 512)
    (h0 : ∀ k, t0 (ix2 0 k) = M.types 0 k) (h1 : ∀ k, t1 (ix2 0 k) = M.types 1 k)
    (hW : ∀ k j, W (ix2 k j) = M.W k j) (hb : ∀ j, b (ix2 0 j) = M.b j) :
    k0_pay3 (F := Ideal) x0 t0 t1 W b (ix2 (row q n) j) = proj M (fun n k => x0 (ix3 q n k)) n j := by
  unfold proj
  simp only [← hW, ← hb]
  have hread : k0_pay3 (F := Ideal) x0 t0 t1 W b (ix2 (row q n) j)
      = ∑ k, (x0 (ix3 ⟨(row q n).val / 80, by omega⟩ ⟨(row q n).val % 80, by omega⟩ k)
          + Scalar.select (IntOp.cmpi .slt (k0_pay2 (ix2 (row q n) 0)) 30#32) (t0 (ix2 0 k)) (t1 (ix2 0 k))) * W (ix2 k j) + b (ix2 0 j) := by
    pointwise [k0_pay3]
  have hq : (⟨(row q n).val / 80, by omega⟩ : Fin 16) = q := Fin.ext (show (q.val * 80 + n.val) / 80 = q.val by omega)
  have hn : (⟨(row q n).val % 80, by omega⟩ : Fin 80) = n := Fin.ext (show (q.val * 80 + n.val) % 80 = n.val by omega)
  have hlt : IntOp.cmpi .slt (BitVec.ofNat 32 n) 30#32 = BitVec.ofBool (decide (n.val < 30)) :=
    (by decide +kernel : ∀ n : Fin 80, IntOp.cmpi .slt (BitVec.ofNat 32 n) 30#32 = BitVec.ofBool (decide (n.val < 30))) n
  rw [hread, rows_at, hlt, hq, hn]
  by_cases hlo : n.val < 30
  · rw [if_pos hlo, decide_eq_true hlo]
    simp only [← h0]
    rfl
  · rw [if_neg hlo, decide_eq_false hlo]
    simp only [← h1]
    rfl

/-- The attributes of the edge at place `k`. -/
theorem kinds_at (a b : FVec Ideal S1x4 .f32) (E : Fin 3 → Fin 4 → EReal) (k : Fin 5) (c : Fin 4)
    (ha : ∀ c, a (ix2 0 c) = E 0 c) (hb : ∀ c, b (ix2 0 c) = E 2 c) :
    k0_pay6 (F := Ideal) a b (k0_pay5 (F := Ideal) a b) (ix2 (![1, 0, 2, 0, 1] k) c) = attr E k c := by
  have hinv : Named.named (F := Ideal) κ "inv308" (φ := .f32) 0x3B54C77B#32 = ((308⁻¹ : ℝ) : EReal) :=
    IdealRules.named_const.ideal_named_scalar _ _ _ _ rfl
  rw [attr, ← hinv]
  fin_cases k
  · exact (show _ = b (ix2 0 c) by pointwise [k0_pay6, k0_pay5]).trans (hb c)
  · exact (show _ = a (ix2 0 c) by pointwise [k0_pay6, k0_pay5]).trans (ha c)
  · refine Eq.trans ?_ (if_pos rfl).symm
    rw [← ha, ← hb]
    pointwise [k0_pay6, k0_pay5]
  · exact (show _ = a (ix2 0 c) by pointwise [k0_pay6, k0_pay5]).trans (ha c)
  · exact (show _ = b (ix2 0 c) by pointwise [k0_pay6, k0_pay5]).trans (hb c)

/-- The blocks of one attention layer hold the layer's parameters. -/
structure LayerReads (W : Vec Ideal S512x1024 .f32) (b : Vec Ideal S1x1024 .f32) (We : Vec Ideal S4x512 .f32) (A : Vec Ideal S512x4 .f32)
    (S : Vec Ideal S4x512 .f32) (bias g beta : Vec Ideal S1x512 .f32) (P : Layer) : Prop where
  Wl : ∀ k j : Fin 512, W (ix2 k (j.castLE (by decide))) = P.Wl k j
  bl : ∀ j : Fin 512, b (ix2 0 (j.castLE (by decide))) = P.bl j
  Wr : ∀ k j : Fin 512, W (ix2 k (j.natAdd 512)) = P.Wr k j
  br : ∀ j : Fin 512, b (ix2 0 (j.natAdd 512)) = P.br j
  We : ∀ c j, We (ix2 c j) = P.We c j
  A : ∀ j hd, A (ix2 j hd) = if headOf j = hd then P.att hd ⟨j.val % 128, Nat.mod_lt _ (by decide)⟩ else 0
  S : ∀ i j, S (ix2 i j) = if headOf j = i then 1 else 0
  bias : ∀ j, bias (ix2 0 j) = P.bias j
  g : ∀ j, g (ix2 0 j) = P.g j
  beta : ∀ j, beta (ix2 0 j) = P.beta j

/-- The blocks hold the network's parameters and sixteen graphs' inputs. -/
structure Reads (M : Net) (X : Fin 16 → Fin 80 → Fin 256 → EReal) : Prop where
  input : ∀ q n k, x.x0 (ix3 q n k) = X q n k
  types : ∀ s k, x.x1 (ix2 s k) = M.types s k
  E : ∀ s c, x.x2 (ix2 s c) = M.E s c
  W : ∀ k j, x.x3 (ix2 k j) = M.W k j
  b : ∀ j, x.x4 (ix2 0 j) = M.b j
  g : ∀ j, x.x5 (ix2 0 j) = M.g j
  beta : ∀ j, x.x6 (ix2 0 j) = M.beta j
  L0 : LayerReads x.x7 x.x8 x.x9 x.x10 x.x11 x.x12 x.x13 x.x14 M.L0
  L1 : LayerReads x.x15 x.x16 x.x17 x.x18 x.x19 x.x20 x.x21 x.x22 M.L1
  Wo : ∀ k o, x.x23 (ix2 k o) = M.Wo k o
  bo : ∀ o, x.x24 (ix2 0 o) = M.bo o
  go : ∀ o, x.x25 (ix2 0 o) = M.go o
  betao : ∀ o, x.x26 (ix2 0 o) = M.betao o

/-- The norm of a row from what its entries, its scale and its shift are. -/
theorem normed_of (x : FVec Ideal S1280x512 .f32) (g b : FVec Ideal S1x512 .f32) (q : Fin 16) (n : Fin 80) (j : Fin 512) {X G B : Fin 512 → EReal}
    (hx : ∀ j, x (ix2 (row q n) j) = X j) (hg : ∀ j, g (ix2 0 j) = G j) (hb : ∀ j, b (ix2 0 j) = B j) :
    normed x g b (ix2 (row q n) j) = norm (word 0x44000000#32) X G B j := by
  obtain rfl : (fun j => x (ix2 (row q n) j)) = X := funext hx
  obtain rfl : (fun j => g (ix2 0 j)) = G := funext hg
  obtain rfl : (fun j => b (ix2 0 j)) = B := funext hb
  exact normed_at x g b q n j

/-- The same for the outputs. -/
theorem outNorm_of (v : FVec Ideal S16x128 .f32) (g b : FVec Ideal S1x128 .f32) (q : Fin 16) (o : Fin 128) {X G B : Fin 128 → EReal}
    (hx : ∀ o, v (ix2 q o) = X o) (hg : ∀ o, g (ix2 0 o) = G o) (hb : ∀ o, b (ix2 0 o) = B o) :
    outNorm v g b (ix2 q o) = norm (word 0x43000000#32) X G B o := by
  obtain rfl : (fun o => v (ix2 q o)) = X := funext hx
  obtain rfl : (fun o => g (ix2 0 o)) = G := funext hg
  obtain rfl : (fun o => b (ix2 0 o)) = B := funext hb
  exact outNorm_at v g b q o

/-- One attention layer with its norm, from loads that read the layer's parameters. -/
theorem layer_at (EA : FVec Ideal S3x4 .f32) (h : FVec Ideal S1280x512 .f32) {W : Vec Ideal S512x1024 .f32} {b : Vec Ideal S1x1024 .f32}
    {We : Vec Ideal S4x512 .f32} {A : Vec Ideal S512x4 .f32} {S : Vec Ideal S4x512 .f32} {bias g beta : Vec Ideal S1x512 .f32} {P : Layer}
    (hP : LayerReads W b We A S bias g beta P) (E : Fin 3 → Fin 4 → EReal) (hEA : ∀ k c, EA (ix2 (![1, 0, 2, 0, 1] k) c) = attr E k c)
    (q : Fin 16) (n : Fin 80) (j : Fin 512) :
    normed (attn k0_pay2 EA h (View.ld W r0_7) (View.ld b r0_8) (View.ld We r0_9) (View.ld A r0_10) (View.ld S r0_9) (View.ld bias r0_4))
      (View.ld g r0_4) (View.ld beta r0_4) (ix2 (row q n) j) = layer P E (nodes h q) n j := by
  have hv : ∀ (v : Vec Ideal S1x512 .f32) j, (View.ld v r0_4 : FVec Ideal S1x512 .f32) (ix2 0 j) = v (ix2 0 j) := fun v j => by pointwise
  have hv2 : ∀ (v : Vec Ideal S1x1024 .f32) j, (View.ld v r0_8 : FVec Ideal S1x1024 .f32) (ix2 0 j) = v (ix2 0 j) := fun v j => by pointwise
  have hm : ∀ (v : Vec Ideal S512x1024 .f32) k j, (View.ld v r0_7 : FVec Ideal S512x1024 .f32) (ix2 k j) = v (ix2 k j) := fun v k j => by pointwise
  have ha : ∀ (v : Vec Ideal S512x4 .f32) k j, (View.ld v r0_10 : FVec Ideal S512x4 .f32) (ix2 k j) = v (ix2 k j) := fun v k j => by pointwise
  have hs : ∀ (v : Vec Ideal S4x512 .f32) k j, (View.ld v r0_9 : FVec Ideal S4x512 .f32) (ix2 k j) = v (ix2 k j) := fun v k j => by pointwise
  exact normed_of _ _ _ q n j (fun j => attn_at _ _ _ _ _ _ _ _ _ P E q n j (rows_at q n) hEA (fun _ _ => (hm _ _ _).trans (hP.Wl _ _))
    (fun _ => (hv2 _ _).trans (hP.bl _)) (fun _ _ => (hm _ _ _).trans (hP.Wr _ _)) (fun _ => (hv2 _ _).trans (hP.br _))
    (fun _ _ => (hs _ _ _).trans (hP.We _ _)) (fun _ _ => (ha _ _ _).trans (hP.A _ _)) (fun _ _ => (hs _ _ _).trans (hP.S _ _))
    (fun _ => (hv _ _).trans (hP.bias _))) (fun _ => (hv _ _).trans (hP.g _)) (fun _ => (hv _ _).trans (hP.beta _))

/-- One step stores the network's output of its sixteen graphs. -/
theorem stored_at {M : Net} {X : Fin 16 → Fin 80 → Fin 256 → EReal} (hx : Reads x M X) (q : Fin 16) (o : Fin 128) :
    stored x (ix2 q o) = Spec.out M (X q) o := by
  have hkinds : ∀ k c, kinds x (ix2 (![1, 0, 2, 0, 1] k) c) = attr M.E k c := fun k c =>
    kinds_at _ _ M.E k c (fun c => (show _ = x.x2 (ix2 0 c) by pointwise).trans (hx.E 0 c)) (fun c => (show _ = x.x2 (ix2 2 c) by pointwise).trans (hx.E 2 c))
  have hv : ∀ (v : Vec Ideal S1x512 .f32) j, (View.ld v r0_4 : FVec Ideal S1x512 .f32) (ix2 0 j) = v (ix2 0 j) := fun v j => by pointwise
  have ho : ∀ (v : Vec Ideal S1x128 .f32) j, (View.ld v r0_12 : FVec Ideal S1x128 .f32) (ix2 0 j) = v (ix2 0 j) := fun v j => by pointwise
  have hx0 : ∀ q n k, (View.ld x.x0 r0_0 : FVec Ideal S16x80x256 .f32) (ix3 q n k) = X q n k := fun q n k => (show _ = x.x0 (ix3 q n k) by pointwise).trans (hx.input q n k)
  have h0 : nodes (h0 x) q = feat0 M (X q) := funext fun n => funext fun j =>
    (activated_at _ q n j).trans (congrArg gelu (normed_of _ _ _ q n j
      (fun j => (proj_at _ _ _ _ _ M q n j (fun k => (show _ = x.x1 (ix2 0 k) by pointwise).trans (hx.types 0 k))
          (fun k => (show _ = x.x1 (ix2 1 k) by pointwise).trans (hx.types 1 k)) (fun k j => (show _ = x.x3 (ix2 k j) by pointwise).trans (hx.W k j))
          (fun j => (hv _ _).trans (hx.b j))).trans (congrArg (fun f => proj M f n j) (funext fun n => funext fun k => hx0 q n k)))
      (fun j => (hv _ _).trans (hx.g j)) (fun j => (hv _ _).trans (hx.beta j))))
  have h1 : nodes (h1 x) q = feat1 M (X q) := funext fun n => funext fun j =>
    (activated_at _ q n j).trans (congrArg gelu ((layer_at _ _ hx.L0 M.E hkinds q n j).trans (congrArg (fun f => layer M.L0 M.E f n j) h0)))
  have h2 : nodes (normed (y2 x) (View.ld x.x21 r0_4) (View.ld x.x22 r0_4)) q = feat2 M (X q) := funext fun n => funext fun j =>
    (layer_at _ _ hx.L1 M.E hkinds q n j).trans (congrArg (fun f => layer M.L1 M.E f n j) h1)
  exact (outGelu_at _ q o).trans (congrArg gelu (outNorm_of _ _ _ q o
    (fun o => (pool_at _ (View.ld x.x23 r0_11) (View.ld x.x24 r0_12) M q o
      (fun k o => (show _ = x.x23 (ix2 k o) by pointwise).trans (hx.Wo k o)) (fun o => (ho _ _).trans (hx.bo o))).trans (congrArg (fun f => pooled M f o) h2))
    (fun o => (ho _ _).trans (hx.go o)) (fun o => (ho _ _).trans (hx.betao o))))

/-- The block a step leaves is what it stores. -/
theorem outBlock_at (q : Fin 16) (o : Fin 128) : outBlock x (ix2 q o) = stored x (ix2 q o) := by
  rw [outBlock_eq]
  exact congrFun (View.canon_cons_unit_lit _ _ _ (by decide)) _

end Cert.KerTile

end
-- ==== Proof.Routing.lean ====
/- The reference's row gathers and accumulating scatters read at an index, for index columns that hold node
   numbers or edge kinds. -/
module

public import proofs.«01_k».proof.Proof.Gen.ReferenceIdeal
public import Idealize.ShloMosaic.Lib.Pointwise

@[expose] public section

set_option maxRecDepth 16384

noncomputable section

namespace Cert.Routing

open Idealize.ShloMosaic Cert.ReferenceIdeal

/-- A small number as a word, read back signed. -/
theorem toInt_small {m : Nat} (hm : m ≤ 80) (s : Fin m) : (BitVec.ofNat 32 s).toInt = s := by
  have := s.2
  rw [BitVec.toInt_eq_toNat_of_lt] <;> simp <;> omega

/-- A gather reads the element its start and offset add up to. -/
theorem gather_at {α : Type} {s si t : Shape} {w : Nat} (d : GatherDims s si t) (x : s.Idx → α) (idx : IVec si w) (j : t.Idx) (i : s.Idx)
    (h : ∀ a, d.start j idx a + d.batchCoord j a + d.offCoord j a = (i a).val) : Host.gather d x idx j = x i :=
  congrArg x (funext fun a => Fin.ext (h a))

/-- An accumulating scatter adds up the updates its start and window lead to the element. -/
theorem scatter_at {s si u : Shape} {w : Nat} (d : ScatterDims s si u) (x : s.Idx → EReal) (idx : IVec si w) (v : u.Idx → EReal)
    (tgt : u.Idx → s.Idx) (h : ∀ j a, d.start j idx a + d.window j a = ((tgt j a).val : Int)) (i : s.Idx) :
    Ideal.hostScatterAdd d x idx v i = x i + ∑ j ∈ Finset.univ.filter (fun j => tgt j = i), v j := by
  have key : ∀ j, d.resultIdx? j idx = some (tgt j) := by
    intro j
    unfold ScatterDims.resultIdx?
    rw [dif_pos fun a => by rw [h]; exact ⟨Int.natCast_nonneg _, Int.ofNat_lt.2 (Fin.isLt _)⟩]
    congr 1
    funext a
    apply Fin.ext
    show Int.toNat _ = _
    rw [h]; rfl
  unfold Ideal.hostScatterAdd
  congr 1
  refine Finset.sum_congr (Finset.filter_congr fun j _ => ?_) fun _ _ => rfl
  rw [key, Option.some.injEq]

/-- The gather of whole feature rows: edge `e` reads node `s`. -/
theorem gather_rows {α : Type} (x : S256x80x4x128.Idx → α) (idx : IVec S388x1 32) (b : Fin 256) (e : Fin 388) (h : Fin 4) (d : Fin 128)
    (s : Fin 80) (hs : idx (ix2 e 0) = BitVec.ofNat 32 s) :
    Host.gather gather_S256x80x4x128_S388x1_S256x388x4x128_023_1_n_n_1_1_25614128 x idx (ix4 b e h d) = x (ix4 b s h d) := by
  refine gather_at _ _ _ _ _ fun a => ?_
  have hi : (gather_S256x80x4x128_S388x1_S256x388x4x128_023_1_n_n_1_1_25614128).siIdx (ix4 b e h d) ⟨0, Nat.one_pos⟩ = ix2 e 0 := by
    funext a; fin_cases a <;> rfl
  have h1 : (gather_S256x80x4x128_S388x1_S256x388x4x128_023_1_n_n_1_1_25614128).start (ix4 b e h d) idx 1 = s := by
    unfold GatherDims.start
    rw [dif_pos (by decide)]
    refine (congrArg (fun i => min (idx i).toInt.toNat 79) hi).trans ?_
    rw [hs, toInt_small le_rfl]
    have := s.2
    omega
  fin_cases a
  · exact Nat.zero_add _
  · exact congrArg (fun n : Nat => n + 0 + 0) h1
  · exact Nat.zero_add _
  · exact Nat.zero_add _

/-- The gather of one number per head: edge `e` reads node `s`. -/
theorem gather_heads {α : Type} (x : S256x80x4.Idx → α) (idx : IVec S388x1 32) (b : Fin 256) (e : Fin 388) (h : Fin 4)
    (s : Fin 80) (hs : idx (ix2 e 0) = BitVec.ofNat 32 s) :
    Host.gather gather_S256x80x4_S388x1_S256x388x4_02_1_n_n_1_1_25614 x idx (ix3 b e h) = x (ix3 b s h) := by
  refine gather_at _ _ _ _ _ fun a => ?_
  have hi : (gather_S256x80x4_S388x1_S256x388x4_02_1_n_n_1_1_25614).siIdx (ix3 b e h) ⟨0, Nat.one_pos⟩ = ix2 e 0 := by
    funext a; fin_cases a <;> rfl
  have h1 : (gather_S256x80x4_S388x1_S256x388x4_02_1_n_n_1_1_25614).start (ix3 b e h) idx 1 = s := by
    unfold GatherDims.start
    rw [dif_pos (by decide)]
    refine (congrArg (fun i => min (idx i).toInt.toNat 79) hi).trans ?_
    rw [hs, toInt_small le_rfl]
    have := s.2
    omega
  fin_cases a
  · exact Nat.zero_add _
  · exact congrArg (fun n : Nat => n + 0 + 0) h1
  · exact Nat.zero_add _

/-- The gather of an edge kind's attributes. -/
theorem gather_kinds {α : Type} (x : S3x4.Idx → α) (idx : IVec S308x1 32) (e : Fin 308) (c : Fin 4)
    (s : Fin 3) (hs : idx (ix2 e 0) = BitVec.ofNat 32 s) :
    Host.gather gather_S3x4_S308x1_S308x4_1_0_n_n_0_1_14 x idx (ix2 e c) = x (ix2 s c) := by
  refine gather_at _ _ _ _ _ fun a => ?_
  have hi : (gather_S3x4_S308x1_S308x4_1_0_n_n_0_1_14).siIdx (ix2 e c) ⟨0, Nat.one_pos⟩ = ix2 e 0 := by
    funext a; fin_cases a <;> rfl
  have h1 : (gather_S3x4_S308x1_S308x4_1_0_n_n_0_1_14).start (ix2 e c) idx 0 = s := by
    unfold GatherDims.start
    rw [dif_pos (by decide)]
    refine (congrArg (fun i => min (idx i).toInt.toNat 2) hi).trans ?_
    rw [hs, toInt_small (by decide)]
    have := s.2
    omega
  fin_cases a
  · exact congrArg (fun n : Nat => n + 0 + 0) h1
  · exact Nat.zero_add _

/-- The scatter of whole feature rows adds up, at node `n`, the rows of the edges into it. -/
theorem scatter_rows (x : S256x80x4x128.Idx → EReal) (idx : IVec S388x1 32) (u : S256x388x4x128.Idx → EReal) (dst : Fin 388 → Fin 80)
    (hd : ∀ e, idx (ix2 e 0) = BitVec.ofNat 32 (dst e)) (b : Fin 256) (n : Fin 80) (h : Fin 4) (d : Fin 128) :
    Ideal.hostScatterAdd scatter_S256x80x4x128_S388x1_S256x388x4x128_023_1_1_1 x idx u (ix4 b n h d)
      = x (ix4 b n h d) + ∑ e ∈ Finset.univ.filter (fun e => dst e = n), u (ix4 b e h d) := by
  refine (scatter_at _ x idx u (fun j => ix4 (j 0) (dst (j 1)) (j 2) (j 3)) (fun j a => ?_) _).trans ?_
  · obtain ⟨b, e, h, d, rfl⟩ : ∃ b e h d, j = ix4 b e h d := ⟨_, _, _, _, eq_ix4 j⟩
    have hi : (scatter_S256x80x4x128_S388x1_S256x388x4x128_023_1_1_1).siIdx (ix4 b e h d) ⟨0, Nat.one_pos⟩ = ix2 e 0 := by
      funext a; fin_cases a <;> rfl
    have h1 : (scatter_S256x80x4x128_S388x1_S256x388x4x128_023_1_1_1).start (ix4 b e h d) idx 1 = ((dst e).val : Int) := by
      unfold ScatterDims.start
      rw [dif_pos (by decide)]
      refine (congrArg (fun i => (idx i).toInt) hi).trans ?_
      rw [hd, toInt_small le_rfl]
    fin_cases a
    · exact Int.zero_add _
    · exact (congrArg (fun n : Int => n + 0) h1).trans (Int.add_zero _)
    · exact Int.zero_add _
    · exact Int.zero_add _
  · congr 1
    symm
    refine Finset.sum_bij (fun e _ => ix4 b e h d) (fun e he => ?_) (fun e _ e' _ hee => congrFun hee 1) (fun j hj => ?_) (fun e _ => rfl)
    · rw [Finset.mem_filter] at he ⊢
      exact ⟨Finset.mem_univ _, by rw [← he.2]; rfl⟩
    · obtain ⟨b', e, h', d', rfl⟩ : ∃ b e h d, j = ix4 b e h d := ⟨_, _, _, _, eq_ix4 j⟩
      have hj := (Finset.mem_filter.1 hj).2
      obtain rfl : b' = b := congrFun hj 0
      obtain rfl : h' = h := congrFun hj 2
      obtain rfl : d' = d := congrFun hj 3
      exact ⟨e, Finset.mem_filter.2 ⟨Finset.mem_univ _, congrFun hj 1⟩, rfl⟩

/-- The scatter of one number per head adds up, at node `n`, the numbers of the edges into it. -/
theorem scatter_heads (x : S256x80x4.Idx → EReal) (idx : IVec S388x1 32) (u : S256x388x4.Idx → EReal) (dst : Fin 388 → Fin 80)
    (hd : ∀ e, idx (ix2 e 0) = BitVec.ofNat 32 (dst e)) (b : Fin 256) (n : Fin 80) (h : Fin 4) :
    Ideal.hostScatterAdd scatter_S256x80x4_S388x1_S256x388x4_02_1_1_1 x idx u (ix3 b n h)
      = x (ix3 b n h) + ∑ e ∈ Finset.univ.filter (fun e => dst e = n), u (ix3 b e h) := by
  refine (scatter_at _ x idx u (fun j => ix3 (j 0) (dst (j 1)) (j 2)) (fun j a => ?_) _).trans ?_
  · obtain ⟨b, e, h, rfl⟩ : ∃ b e h, j = ix3 b e h := ⟨_, _, _, eq_ix3 j⟩
    have hi : (scatter_S256x80x4_S388x1_S256x388x4_02_1_1_1).siIdx (ix3 b e h) ⟨0, Nat.one_pos⟩ = ix2 e 0 := by
      funext a; fin_cases a <;> rfl
    have h1 : (scatter_S256x80x4_S388x1_S256x388x4_02_1_1_1).start (ix3 b e h) idx 1 = ((dst e).val : Int) := by
      unfold ScatterDims.start
      rw [dif_pos (by decide)]
      refine (congrArg (fun i => (idx i).toInt) hi).trans ?_
      rw [hd, toInt_small le_rfl]
    fin_cases a
    · exact Int.zero_add _
    · exact (congrArg (fun n : Int => n + 0) h1).trans (Int.add_zero _)
    · exact Int.zero_add _
  · congr 1
    symm
    refine Finset.sum_bij (fun e _ => ix3 b e h) (fun e he => ?_) (fun e _ e' _ hee => congrFun hee 1) (fun j hj => ?_) (fun e _ => rfl)
    · rw [Finset.mem_filter] at he ⊢
      exact ⟨Finset.mem_univ _, by rw [← he.2]; rfl⟩
    · obtain ⟨b', e, h', rfl⟩ : ∃ b e h, j = ix3 b e h := ⟨_, _, _, eq_ix3 j⟩
      have hj := (Finset.mem_filter.1 hj).2
      obtain rfl : b' = b := congrFun hj 0
      obtain rfl : h' = h := congrFun hj 2
      exact ⟨e, Finset.mem_filter.2 ⟨Finset.mem_univ _, congrFun hj 1⟩, rfl⟩

end Cert.Routing

end
-- ==== Proof.RefLayer.lean ====
/- One attention layer of the reference, as a function of the arrays it reads, and its value at an index. -/
module

public import proofs.«01_k».proof.Proof.Spec
public import proofs.«01_k».proof.Proof.Routing
public import Idealize.ShloMosaic.Lib.Pointwise

@[expose] public section

set_option maxRecDepth 16384

noncomputable section

namespace Cert.RefLayer

open Idealize.ShloMosaic Cert.ReferenceIdeal Cert.ReferenceIdeal.Gen Cert.Reals Cert.Edges Cert.Spec

/-- A linear map of all nodes' features, split into heads. -/
def split (h : FVec Ideal S256x80x512 .f32) (W : FVec Ideal S512x512 .f32) (b : FVec Ideal S512 .f32) : FVec Ideal S256x80x4x128 .f32 :=
  shapeCast _ (addf (Host.dotGeneral dot_S256x80x512_S512x512_S256x80x512_2_0_01_1_n_n none h W) (broadcastInDim S256x80x512 ![0, 1, 2] bcast_S1x1x512_S256x80x512_0_1_2 (broadcastInDim S1x1x512 ![2] bcast_S512_S1x1x512_2 b))) shapeCasts_S256x80x512_S256x80x4x128

/-- A table of nodes as the column a gather reads. -/
def column (c : IVec S388 32) : IVec S388x1 32 :=
  broadcastInDim S388x1 ![0] bcast_S388_S388x1_0 (select (constantI S388 1 0#1) (addi c (broadcastInDim S388 ![] bcast_S_S388 (constantI S_ 32 80#32))) c)

/-- What goes into the leaky rectifier on every edge. -/
def message (xl xr : FVec Ideal S256x80x4x128 .f32) (ea : FVec Ideal S388x4 .f32) (We : FVec Ideal S4x512 .f32) (s t : IVec S388 32) : FVec Ideal S256x388x4x128 .f32 :=
  addf (addf (Host.gather gather_S256x80x4x128_S388x1_S256x388x4x128_023_1_n_n_1_1_25614128 xl (column s)) (Host.gather gather_S256x80x4x128_S388x1_S256x388x4x128_023_1_n_n_1_1_25614128 xr (column t))) (broadcastInDim S256x388x4x128 ![0, 1, 2, 3] bcast_S1x388x4x128_S256x388x4x128_0_1_2_3 (broadcastInDim S1x388x4x128 ![1, 2, 3] bcast_S388x4x128_S1x388x4x128_1_2_3 (shapeCast _ (Host.dotGeneral dot_S388x4_S4x512_S388x512_1_0_0_1_n_n none ea We) shapeCasts_S388x512_S388x4x128)))

/-- The logits of all edges. -/
def scores (msg : FVec Ideal S256x388x4x128 .f32) (att : FVec Ideal S4x128 .f32) : FVec Ideal S256x388x4 .f32 :=
  Host.reduceAdd (mulf (select (cmpf .oge msg (broadcastInDim S256x388x4x128 ![] bcast_S_S256x388x4x128 (constant S_ .f32 0x00000000#32))) msg (mulf (broadcastInDim S256x388x4x128 ![] bcast_S_S256x388x4x128 (constant S_ .f32 0x3E4CCCCD#32)) msg)) (broadcastInDim S256x388x4x128 ![0, 1, 2, 3] bcast_S1x1x4x128_S256x388x4x128_0_1_2_3 (broadcastInDim S1x1x4x128 ![2, 3] bcast_S4x128_S1x1x4x128_2_3 att))) (constant S_ .f32 0x00000000#32) reducesTo_S256x388x4x128_S256x388x4_d3 h_S_

/-- The greatest logit into every node. -/
def greatest (al : FVec Ideal S256x388x4 .f32) (t : IVec S388 32) : FVec Ideal S256x80x4 .f32 :=
  Host.reduce FloatOps.maximumf (select (broadcastInDim S256x80x388x4 ![1, 2, 3] bcast_S80x388x4_S256x80x388x4_1_2_3 (broadcastInDim S80x388x4 ![0, 1, 2] bcast_S80x388x1_S80x388x4_0_1_2 (cmpi .eq (broadcastInDim S80x388x1 ![0, 1, 2] bcast_S1x388x1_S80x388x1_0_1_2 (broadcastInDim S1x388x1 ![1] bcast_S388_S1x388x1_1 t)) (broadcastInDim S80x388x1 ![0, 1, 2] bcast_S80x1x1_S80x388x1_0_1_2 (broadcastInDim S80x1x1 ![0] bcast_S80_S80x1x1_0 (iotaInDim S80 32 0)))))) (broadcastInDim S256x80x388x4 ![0, 1, 2, 3] bcast_S256x1x388x4_S256x80x388x4_0_1_2_3 (broadcastInDim S256x1x388x4 ![0, 2, 3] bcast_S256x388x4_S256x1x388x4_0_2_3 al)) (broadcastInDim S256x80x388x4 ![1, 2, 3] bcast_S80x388x4_S256x80x388x4_1_2_3 (broadcastInDim S80x388x4 ![] bcast_S_S80x388x4 (id (constant S_ .f32 0xFF800000#32))))) (constant S_ .f32 0xFF800000#32) reducesTo_S256x80x388x4_S256x80x4_d2 h_S_

/-- The shift of the logits into every node: the greatest one where it is finite, else zero. -/
def shift (am : FVec Ideal S256x80x4 .f32) : FVec Ideal S256x80x4 .f32 :=
  select (cmpf .olt (Host.absf am) (broadcastInDim S256x80x4 ![] bcast_S_S256x80x4 (constant S_ .f32 0x7F800000#32))) am (broadcastInDim S256x80x4 ![1, 2] bcast_S80x4_S256x80x4_1_2 (broadcastInDim S80x4 ![] bcast_S_S80x4 (id (constant S_ .f32 0x00000000#32))))

/-- The exponentials of the shifted logits. -/
def exps (al : FVec Ideal S256x388x4 .f32) (am : FVec Ideal S256x80x4 .f32) (t : IVec S388 32) : FVec Ideal S256x388x4 .f32 :=
  Host.exp (subf al (Host.gather gather_S256x80x4_S388x1_S256x388x4_02_1_n_n_1_1_25614 (shift am) (column t)))

/-- The denominators at every node. -/
def dens (ex : FVec Ideal S256x388x4 .f32) (t : IVec S388 32) : FVec Ideal S256x80x4 .f32 :=
  Host.scatterAdd scatter_S256x80x4_S388x1_S256x388x4_02_1_1_1 (broadcastInDim S256x80x4 ![1, 2] bcast_S80x4_S256x80x4_1_2 (broadcastInDim S80x4 ![] bcast_S_S80x4 (constant S_ .f32 0x00000000#32))) (broadcastInDim S388x1 ![0] bcast_S388_S388x1_0 t) ex

/-- The weighted features on every edge. -/
def weighted (ex : FVec Ideal S256x388x4 .f32) (xl : FVec Ideal S256x80x4x128 .f32) (s t : IVec S388 32) : FVec Ideal S256x388x4x128 .f32 :=
  mulf (broadcastInDim S256x388x4x128 ![0, 1, 2, 3] bcast_S256x388x4x1_S256x388x4x128_0_1_2_3 (broadcastInDim S256x388x4x1 ![0, 1, 2] bcast_S256x388x4_S256x388x4x1_0_1_2 (Host.divf ex (addf (Host.gather gather_S256x80x4_S388x1_S256x388x4_02_1_n_n_1_1_25614 (dens ex t) (column t)) (broadcastInDim S256x388x4 ![] bcast_S_S256x388x4 (constant S_ .f32 0x24E69595#32)))))) (Host.gather gather_S256x80x4x128_S388x1_S256x388x4x128_023_1_n_n_1_1_25614128 xl (column s))

/-- The sums at every node with bias and residual. -/
def collect (ex : FVec Ideal S256x388x4 .f32) (xl : FVec Ideal S256x80x4x128 .f32) (s t : IVec S388 32) (bias : FVec Ideal S512 .f32) (h : FVec Ideal S256x80x512 .f32) : FVec Ideal S256x80x512 .f32 :=
  addf (addf (shapeCast _ (Host.scatterAdd scatter_S256x80x4x128_S388x1_S256x388x4x128_023_1_1_1 (broadcastInDim S256x80x4x128 ![1, 2, 3] bcast_S80x4x128_S256x80x4x128_1_2_3 (broadcastInDim S80x4x128 ![] bcast_S_S80x4x128 (constant S_ .f32 0x00000000#32))) (broadcastInDim S388x1 ![0] bcast_S388_S388x1_0 t) (weighted ex xl s t)) shapeCasts_S256x80x4x128_S256x80x512) (broadcastInDim S256x80x512 ![0, 1, 2] bcast_S1x1x512_S256x80x512_0_1_2 (broadcastInDim S1x1x512 ![2] bcast_S512_S1x1x512_2 bias))) h

/-- The layer norm over the features. -/
def normed (x : FVec Ideal S256x80x512 .f32) (g b : FVec Ideal S512 .f32) : FVec Ideal S256x80x512 .f32 :=
  let mu := Host.divf (broadcastInDim S256x80x1 ![0, 1] bcast_S256x80_S256x80x1_0_1 (Host.reduceAdd x (constant S_ .f32 0x00000000#32) reducesTo_S256x80x512_S256x80_d2 h_S_)) (broadcastInDim S256x80x1 ![] bcast_S_S256x80x1 (constant S_ .f32 0x44000000#32))
  let xc := subf x (broadcastInDim S256x80x512 ![0, 1, 2] bcast_S256x80x1_S256x80x512_0_1_2 mu)
  addf (mulf (Host.divf (subf x (broadcastInDim S256x80x512 ![0, 1, 2] bcast_S256x80x1_S256x80x512_0_1_2 mu)) (broadcastInDim S256x80x512 ![0, 1, 2] bcast_S256x80x1_S256x80x512_0_1_2 (Host.sqrt (addf (Host.divf (broadcastInDim S256x80x1 ![0, 1] bcast_S256x80_S256x80x1_0_1 (Host.reduceAdd (mulf xc xc) (constant S_ .f32 0x00000000#32) reducesTo_S256x80x512_S256x80_d2 h_S_)) (broadcastInDim S256x80x1 ![] bcast_S_S256x80x1 (constant S_ .f32 0x44000000#32))) (broadcastInDim S256x80x1 ![] bcast_S_S256x80x1 (constant S_ .f32 0x3727C5AC#32)))))) (broadcastInDim S256x80x512 ![0, 1, 2] bcast_S1x1x512_S256x80x512_0_1_2 (broadcastInDim S1x1x512 ![2] bcast_S512_S1x1x512_2 g))) (broadcastInDim S256x80x512 ![0, 1, 2] bcast_S1x1x512_S256x80x512_0_1_2 (broadcastInDim S1x1x512 ![2] bcast_S512_S1x1x512_2 b))

/-- The gelu of all features. -/
def activated (x : FVec Ideal S256x80x512 .f32) : FVec Ideal S256x80x512 .f32 :=
  mulf (mulf (broadcastInDim S256x80x512 ![] bcast_S_S256x80x512 (constant S_ .f32 0x3F000000#32)) x) (Host.erfc (mulf (Host.negf x) (broadcastInDim S256x80x512 ![] bcast_S_S256x80x512 (constant S_ .f32 0x3F3504F3#32))))

/-! ## Values at an index -/

/-- Features of graph `b`. -/
abbrev nodes (h : FVec Ideal S256x80x512 .f32) (b : Fin 256) : Nodes := fun n j => h (ix3 b n j)

/-- The split linear map at an index. -/
theorem split_at (h : FVec Ideal S256x80x512 .f32) (W : FVec Ideal S512x512 .f32) (c : FVec Ideal S512 .f32) (b : Fin 256) (n : Fin 80) (hd : Fin 4) (d : Fin 128) :
    split h W c (ix4 b n hd d) = lin (nodes h b) (fun k j => W (ix2 k j)) (fun j => c (ix1 j)) n (col hd d) := by
  pointwise [split]
  rfl

/-- The column holds the table. -/
theorem column_at (c : IVec S388 32) (e : Fin 388) : column c (ix2 e 0) = c (ix1 e) := by
  pointwise [column]

/-- The layer norm at an index. -/
theorem normed_at (x : FVec Ideal S256x80x512 .f32) (g c : FVec Ideal S512 .f32) (b : Fin 256) (n : Fin 80) (j : Fin 512) :
    normed x g c (ix3 b n j) = norm (word 0x44000000#32) (nodes x b n) (fun j => g (ix1 j)) (fun j => c (ix1 j)) j := by
  pointwise [normed]
  rfl

/-- The gelu at an index. -/
theorem activated_at (x : FVec Ideal S256x80x512 .f32) (b : Fin 256) (n : Fin 80) (j : Fin 512) :
    activated x (ix3 b n j) = gelu (x (ix3 b n j)) := by
  pointwise [activated]
  rfl

/-- The shift at an index. -/
theorem shift_at (am : FVec Ideal S256x80x4 .f32) (b : Fin 256) (n : Fin 80) (hd : Fin 4) :
    shift am (ix3 b n hd) = if max (am (ix3 b n hd)) (-am (ix3 b n hd)) < ⊤ then am (ix3 b n hd) else 0 := by
  have hz : id (constant (F := Ideal) S_ .f32 0#32) ix0 = (0 : EReal) := Ideal.ofBits_zero_f32
  pointwise [shift]
  rw [← word_top, hz]
  rfl

section
variable (h : FVec Ideal S256x80x512 .f32) (ea : FVec Ideal S388x4 .f32) (Wl : FVec Ideal S512x512 .f32) (bl : FVec Ideal S512 .f32)
  (Wr : FVec Ideal S512x512 .f32) (br : FVec Ideal S512 .f32) (We : FVec Ideal S4x512 .f32) (att : FVec Ideal S4x128 .f32)
  (bias g beta : FVec Ideal S512 .f32) (s t : IVec S388 32) (E : Fin 3 → Fin 4 → EReal)

/-- The layer's parameters as the formulas read them. -/
def params : Layer where
  Wl k j := Wl (ix2 k j)
  bl j := bl (ix1 j)
  Wr k j := Wr (ix2 k j)
  br j := br (ix1 j)
  We k j := We (ix2 k j)
  att hd d := att (ix2 hd d)
  bias j := bias (ix1 j)
  g j := g (ix1 j)
  beta j := beta (ix1 j)

variable (P : Layer) (hP : P = params Wl bl Wr br We att bias g beta)
  (hs : ∀ e, s (ix1 e) = BitVec.ofNat 32 (src e)) (ht : ∀ e, t (ix1 e) = BitVec.ofNat 32 (dst e))
  (hea : ∀ e c, ea (ix2 e c) = attr E (step e) c)

include hP hs ht hea

/-- What goes into the leaky rectifier on every edge. -/
theorem message_at (b : Fin 256) (e : Fin 388) (hd : Fin 4) (d : Fin 128) :
    message (split h Wl bl) (split h Wr br) ea We s t (ix4 b e hd d) = pre P E (nodes h b) (dst e) (step e) (col hd d) := by
  subst hP
  pointwise [message]
  rw [Routing.gather_rows _ _ b e hd d (src e) ((column_at s e).trans (hs e)),
    Routing.gather_rows _ _ b e hd d (dst e) ((column_at t e).trans (ht e)), split_at, split_at]
  simp only [hea]
  unfold pre
  rw [edge_at]
  rfl

/-- The logit of every edge. -/
theorem scores_at (b : Fin 256) (e : Fin 388) (hd : Fin 4) :
    scores (message (split h Wl bl) (split h Wr br) ea We s t) att (ix3 b e hd) = score P E (nodes h b) (dst e) hd (step e) := by
  pointwise [scores]
  refine Finset.sum_congr rfl fun d _ => ?_
  rw [message_at h ea Wl bl Wr br We att bias g beta s t E P hP hs ht hea b e hd d]
  subst hP
  rfl

omit hP hs ht hea in
/-- The logits around a node are those of the edges into it. -/
theorem logits_edge (b : Fin 256) (n : Fin 80) (hd : Fin 4) :
    (fun k => if Valid k n then score P E (nodes h b) (dst (edge k n)) hd (step (edge k n)) else ⊥) = logits P E (nodes h b) n hd := by
  funext k
  unfold logits
  split
  · next hk => rw [(edge_spec k n hk).1, (edge_spec k n hk).2.1]
  · rfl

/-- The greatest logit into every node. -/
theorem greatest_at (b : Fin 256) (n : Fin 80) (hd : Fin 4) :
    greatest (scores (message (split h Wl bl) (split h Wr br) ea We s t) att) t (ix3 b n hd) = top5 (logits P E (nodes h b) n hd) := by
  have hz : id (constant (F := Ideal) S_ .f32 0xFF800000#32) ix0 = (⊥ : EReal) := word_bot
  rw [← logits_edge, ← sup_edges fun e => score P E (nodes h b) (dst e) hd (step e)]
  pointwise [greatest]
  rw [hz, show Ideal.ofBits FTy.f32 0xFF800000#32 = ⊥ from word_bot]
  refine Finset.sup_congr rfl fun e _ => ?_
  rw [scores_at h ea Wl bl Wr br We att bias g beta s t E P hP hs ht hea b e hd, ht]
  have hc : IntOp.cmpi CmpIPredicate.eq (BitVec.ofNat 32 (dst e)) (BitVec.ofNat 32 n) = BitVec.ofBool (decide (dst e = n)) :=
    (by decide +kernel : ∀ a b : Fin 80, IntOp.cmpi CmpIPredicate.eq (BitVec.ofNat 32 a) (BitVec.ofNat 32 b) = BitVec.ofBool (decide (a = b))) _ _
  rw [hc]
  by_cases h : dst e = n <;> simp [h, Scalar.select]

/-- The attention layer with its residual is the formula's. -/
theorem collect_at (b : Fin 256) (n : Fin 80) (j : Fin 512) :
    collect (exps (scores (message (split h Wl bl) (split h Wr br) ea We s t) att)
      (greatest (scores (message (split h Wl bl) (split h Wr br) ea We s t) att) t) t) (split h Wl bl) s t bias h (ix3 b n j)
    = gat P E (nodes h b) n j := by
  have hsc := fun e hd => scores_at h ea Wl bl Wr br We att bias g beta s t E P hP hs ht hea b e hd
  have hgr := fun n hd => greatest_at h ea Wl bl Wr br We att bias g beta s t E P hP hs ht hea b n hd
  generalize hal : scores (message (split h Wl bl) (split h Wr br) ea We s t) att = al at *
  have hraw : ∀ e, broadcastInDim S388x1 ![0] bcast_S388_S388x1_0 t (ix2 e 0) = BitVec.ofNat 32 (dst e) := fun e => by
    pointwise; exact ht e
  -- the exponentials
  obtain ⟨a, ha⟩ : ∃ a : Fin 80 → Fin 4 → EReal, ∀ n hd, a n hd
      = if max (top5 (logits P E (nodes h b) n hd)) (-top5 (logits P E (nodes h b) n hd)) < ⊤ then top5 (logits P E (nodes h b) n hd) else 0 :=
    ⟨_, fun _ _ => rfl⟩
  have hex : ∀ e hd, exps al (greatest al t) t (ix3 b e hd) = Ideal.exp (score P E (nodes h b) (dst e) hd (step e) - a (dst e) hd) := by
    intro e hd
    pointwise [exps]
    rw [Routing.gather_heads _ _ b e hd (dst e) ((column_at t e).trans (ht e)), shift_at, hsc, hgr, ← ha]
  generalize exps al (greatest al t) t = ex at *
  -- the denominators
  have hde : ∀ n hd, dens ex t (ix3 b n hd) = ∑ k ∈ Finset.univ.filter (fun k => Valid k n), Ideal.exp (logits P E (nodes h b) n hd k - a n hd) := by
    intro n hd
    have h0 : broadcastInDim S256x80x4 ![1, 2] bcast_S80x4_S256x80x4_1_2 (broadcastInDim S80x4 ![] bcast_S_S80x4 (constant (F := Ideal) S_ .f32 0x00000000#32)) (ix3 b n hd) = (0 : EReal) := by
      pointwise
    refine (Routing.scatter_heads _ _ ex dst hraw b n hd).trans ?_
    rw [h0, zero_add, sum_edges]
    refine Finset.sum_congr rfl fun k hk => ?_
    have hk := (Finset.mem_filter.1 hk).2
    rw [hex, (edge_spec k n hk).1, (edge_spec k n hk).2.1, logits, if_pos hk]
  -- the sums
  have hwe : ∀ e hd d, weighted ex (split h Wl bl) s t (ix4 b e hd d)
      = Ideal.div (ex (ix3 b e hd)) (dens ex t (ix3 b (dst e) hd) + word 0x24E69595#32) * lin (nodes h b) P.Wl P.bl (src e) (col hd d) := by
    intro e hd d
    pointwise [weighted]
    rw [Routing.gather_rows _ _ b e hd d (src e) ((column_at s e).trans (hs e)),
      Routing.gather_heads _ _ b e hd (dst e) ((column_at t e).trans (ht e)), split_at]
    subst hP
    rfl
  have h0 : ∀ hd d, broadcastInDim S256x80x4x128 ![1, 2, 3] bcast_S80x4x128_S256x80x4x128_1_2_3 (broadcastInDim S80x4x128 ![] bcast_S_S80x4x128 (constant (F := Ideal) S_ .f32 0x00000000#32)) (ix4 b n hd d) = (0 : EReal) := by
    intro hd d
    pointwise
  have hcol : col (headOf j) ⟨j.val % 128, Nat.mod_lt _ (by decide)⟩ = j := Fin.ext (Nat.div_add_mod' _ _)
  have hsum := (Routing.scatter_rows (broadcastInDim S256x80x4x128 ![1, 2, 3] bcast_S80x4x128_S256x80x4x128_1_2_3 (broadcastInDim S80x4x128 ![] bcast_S_S80x4x128 (constant (F := Ideal) S_ .f32 0x00000000#32))) _ (weighted ex (split h Wl bl) s t) dst hraw b n (headOf j) ⟨j.val % 128, Nat.mod_lt _ (by decide)⟩)
  rw [h0, zero_add, sum_edges] at hsum
  have hfin : ∑ k ∈ Finset.univ.filter (fun k => Valid k n), weighted ex (split h Wl bl) s t (ix4 b (edge k n) (headOf j) ⟨j.val % 128, Nat.mod_lt _ (by decide)⟩)
      = ∑ k, soft (logits P E (nodes h b) n (headOf j)) k * lin (nodes h b) P.Wl P.bl (at5 k n) j := by
    rw [← Finset.sum_filter_add_sum_filter_not Finset.univ (fun k => Valid k n) (fun k => soft _ k * _),
      Finset.sum_eq_zero (s := Finset.univ.filter fun k => ¬ Valid k n) fun k hk => by
        rw [soft_bot _ _ (if_neg (Finset.mem_filter.1 hk).2), zero_mul], add_zero]
    refine Finset.sum_congr rfl fun k hk => ?_
    have hk := (Finset.mem_filter.1 hk).2
    rw [hwe, hcol, hex, hde, (edge_spec k n hk).1, (edge_spec k n hk).2.1, (edge_spec k n hk).2.2.1,
      ← soft_shift (logits P E (nodes h b) n (headOf j)) (Finset.univ.filter fun k => Valid k n)
        (fun k hk => if_neg fun hv => hk (Finset.mem_filter.2 ⟨Finset.mem_univ _, hv⟩)) k (a n (headOf j)) (ha _ _)]
    rw [show logits P E (nodes h b) n (headOf j) k = score P E (nodes h b) n (headOf j) k from if_pos hk]
  rw [hfin] at hsum
  pointwise [collect]
  unfold gat
  rw [add_comm (P.bias j)]
  refine congrArg₂ (· + ·) (congrArg₂ (· + ·) hsum ?_) rfl
  subst hP
  rfl
end

end Cert.RefLayer

end
-- ==== Proof.Params.lean ====
/- The network's parameters and inputs as both programs' argument arrays give them. -/
module

public import proofs.«01_k».proof.Proof.RefLayer

@[expose] public section

set_option maxRecDepth 16384

noncomputable section

namespace Cert.Params

open Idealize.ShloMosaic Cert.ReferenceIdeal Cert.RefLayer Cert.Spec

/-- The network of the parameter arrays. -/
def net (types : FVec Ideal S2x256 .f32) (E : FVec Ideal S3x4 .f32) (W : FVec Ideal S256x512 .f32) (b g beta : FVec Ideal S512 .f32)
    (L0 L1 : Layer) (Wo : FVec Ideal S1024x128 .f32) (bo go betao : FVec Ideal S128 .f32) : Net where
  types s k := types (ix2 s k)
  E s c := E (ix2 s c)
  W k j := W (ix2 k j)
  b j := b (ix1 j)
  g j := g (ix1 j)
  beta j := beta (ix1 j)
  L0 := L0
  L1 := L1
  Wo k o := Wo (ix2 k o)
  bo o := bo (ix1 o)
  go o := go (ix1 o)
  betao o := betao (ix1 o)

/-- The input of graph `q`: thirty nodes of the first array, then fifty of the second. -/
def input (a : FVec Ideal S256x30x256 .f32) (b : FVec Ideal S256x50x256 .f32) (q : Fin 256) (n : Fin 80) (k : Fin 256) : EReal :=
  if h : n.val < 30 then a (ix3 q ⟨n.val, h⟩ k) else b (ix3 q ⟨n.val - 30, by omega⟩ k)

/-- All graphs' outputs. -/
def result (M : Net) (a : FVec Ideal S256x30x256 .f32) (b : FVec Ideal S256x50x256 .f32) : FVec Ideal S256x128 .f32 :=
  fun i => Spec.out M (input a b (i 0)) (i 1)

end Cert.Params

end
-- ==== Proof.KerValue.lean ====
/- What the kernel's blocks hold. -/
module

public import proofs.«01_k».proof.Proof.KernelIdealRun
public import proofs.«01_k».proof.Proof.KerTile
public import proofs.«01_k».proof.Proof.Params
public import Idealize.ShloMosaic.Lib.Claim
public import Idealize.ShloMosaic.Lib.Pipeline.ValueKit

@[expose] public section

set_option maxRecDepth 16384

noncomputable section

namespace Cert.KerValue

open Idealize.ShloMosaic Idealize.ShloMosaic.TcCoe Cert.KernelIdeal Cert.KernelIdeal.Gen Cert.KernelIdeal.Body Cert.Reals Cert.Spec Cert.KerTile

variable (m : (ℓ : Loc nD τ sig) → Buf (Elt Ideal) ℓ)

/-- The word one. -/
theorem word_one : Ideal.ofBits .f32 0x3F800000#32 = (1 : EReal) := by
  refine (show Ideal.ofBits .f32 0x3F800000#32 = ((1 : ℝ) : EReal) from ?_).trans EReal.coe_one
  simp [Ideal.ofBits, Ideal.ieee, -EReal.coe_mul]; norm_num

/-- The word zero. -/
theorem word_zero : Ideal.ofBits .f32 0x00000000#32 = (0 : EReal) := by
  simp [Ideal.ofBits, Ideal.ieee]

/-- Where a head's column of the selection table holds ones. -/
theorem table_at : ∀ (j : Fin 512) (hd : Fin 4), lit0 (S512x4.rowMajor (ix2 j hd)) = if headOf j = hd then 0x3F800000#32 else 0#32 := by
  decide +kernel

/-- The word one and the word zero. -/
theorem table_val (j : Fin 512) (hd : Fin 4) : Ideal.ofBits .f32 (lit0 (S512x4.rowMajor (ix2 j hd))) = if headOf j = hd then (1 : EReal) else 0 := by
  rw [table_at]
  split
  · exact word_one
  · exact word_zero

/-- The graphs' blocks follow the step. -/
theorem idx : ∀ t : Fin cfg0.N, win0_0.index t = ![t.val, 0, 0] ∧ win0_27.index t = ![t.val, 0] :=
  (by decide +kernel : ∀ t : Fin grid0.N, _)

/-- The blocks of the input's parameters stay. -/
theorem idx_in : ∀ t : Fin cfg0.N, win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The blocks of the first layer's parameters stay. -/
theorem idx_first : ∀ t : Fin cfg0.N, win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)

/-- The blocks of the second layer's parameters stay. -/
theorem idx_second : ∀ t : Fin cfg0.N, win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] :=
  (by decide +kernel : ∀ t : Fin grid0.N, _)

/-- The blocks of the output's parameters stay. -/
theorem idx_out : ∀ t : Fin cfg0.N, win0_23.index t = ![0, 0] ∧ win0_24.index t = ![0, 0] ∧ win0_25.index t = ![0, 0] ∧ win0_26.index t = ![0, 0] :=
  (by decide +kernel : ∀ t : Fin grid0.N, _)

/-- The first layer's parameters on core `c`. -/
def first (c : Dev nD) : Layer :=
  RefLayer.params (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- The second layer's parameters. -/
def second (c : Dev nD) : Layer :=
  RefLayer.params (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

/-- The network of the kernel's arguments on core `c`. -/
def net (c : Dev nD) : Net :=
  Params.net (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (first m c) (second m c) (m ((c : Thread nD τ).loc main_arg26)) (m ((c : Thread nD τ).loc main_arg27)) (m ((c : Thread nD τ).loc main_arg28)) (m ((c : Thread nD τ).loc main_arg29))

/-- The graph a step's place `q` holds. -/
def graph (t : Fin cfg0.N) (q : Fin 16) : Fin 256 := ⟨t.val * 16 + q.val, by have h : t.val < 16 := t.isLt; omega⟩

/-- The graphs of a step's block. -/
theorem input_at (c : Dev nD) (t : Fin cfg0.N) (q n k) : (iblk m c 0 t : FVec Ideal S16x80x256 .f32) (ix3 q n k)
    = Params.input (m ((c : Thread nD τ).loc main_arg0)) (m ((c : Thread nD τ).loc main_arg1)) (graph t q) n k := by
  have hb : (iblk m c 0 t : FVec Ideal S16x80x256 .f32) (ix3 q n k) = (V m c main_v0 : FVec Ideal S256x80x256 .f32) (ix3 (graph t q) n k) := by
    unfold graph
    blk_point [iblk, idx t]
  rw [hb]
  unfold Params.input
  entry_read
  pointwise

/-! Each parameter's block, at an index, is the argument it is made of. -/

/-- The block of the node types' embedding is the argument. -/
theorem types_at (c : Dev nD) (t : Fin cfg0.N) (s k) : (iblk m c 1 t : FVec Ideal S2x256 .f32) (ix2 s k) = (m ((c : Thread nD τ).loc main_arg2) : FVec Ideal S2x256 .f32) (ix2 s k) := by
  blk_point [iblk, V, idx_in t]

/-- The block of the edge types' embedding is the argument. -/
theorem E_at (c : Dev nD) (t : Fin cfg0.N) (s k) : (iblk m c 2 t : FVec Ideal S3x4 .f32) (ix2 s k) = (m ((c : Thread nD τ).loc main_arg3) : FVec Ideal S3x4 .f32) (ix2 s k) := by
  blk_point [iblk, V, idx_in t]

/-- The block of the input weights is the argument. -/
theorem W_at (c : Dev nD) (t : Fin cfg0.N) (s k) : (iblk m c 3 t : FVec Ideal S256x512 .f32) (ix2 s k) = (m ((c : Thread nD τ).loc main_arg4) : FVec Ideal S256x512 .f32) (ix2 s k) := by
  blk_point [iblk, V, idx_in t]

/-- The block of the input bias is the argument. -/
theorem b_at (c : Dev nD) (t : Fin cfg0.N) (j) : (iblk m c 4 t : FVec Ideal S1x512 .f32) (ix2 0 j) = (m ((c : Thread nD τ).loc main_arg5) : FVec Ideal S512 .f32) (ix1 j) := by
  blk_point [iblk, V, idx_in t]

/-- The block of the input norm's gain is the argument. -/
theorem g_at (c : Dev nD) (t : Fin cfg0.N) (j) : (iblk m c 5 t : FVec Ideal S1x512 .f32) (ix2 0 j) = (m ((c : Thread nD τ).loc main_arg6) : FVec Ideal S512 .f32) (ix1 j) := by
  blk_point [iblk, V, idx_in t]

/-- The block of the input norm's shift is the argument. -/
theorem beta_at (c : Dev nD) (t : Fin cfg0.N) (j) : (iblk m c 6 t : FVec Ideal S1x512 .f32) (ix2 0 j) = (m ((c : Thread nD τ).loc main_arg7) : FVec Ideal S512 .f32) (ix1 j) := by
  blk_point [iblk, V, idx_in t]

/-- The block of the output weights is the argument. -/
theorem Wo_at (c : Dev nD) (t : Fin cfg0.N) (s k) : (iblk m c 23 t : FVec Ideal S1024x128 .f32) (ix2 s k) = (m ((c : Thread nD τ).loc main_arg26) : FVec Ideal S1024x128 .f32) (ix2 s k) := by
  blk_point [iblk, V, idx_out t]

/-- The block of the output bias is the argument. -/
theorem bo_at (c : Dev nD) (t : Fin cfg0.N) (j) : (iblk m c 24 t : FVec Ideal S1x128 .f32) (ix2 0 j) = (m ((c : Thread nD τ).loc main_arg27) : FVec Ideal S128 .f32) (ix1 j) := by
  blk_point [iblk, V, idx_out t]

/-- The block of the output norm's gain is the argument. -/
theorem go_at (c : Dev nD) (t : Fin cfg0.N) (j) : (iblk m c 25 t : FVec Ideal S1x128 .f32) (ix2 0 j) = (m ((c : Thread nD τ).loc main_arg28) : FVec Ideal S128 .f32) (ix1 j) := by
  blk_point [iblk, V, idx_out t]

/-- The block of the output norm's shift is the argument. -/
theorem betao_at (c : Dev nD) (t : Fin cfg0.N) (j) : (iblk m c 26 t : FVec Ideal S1x128 .f32) (ix2 0 j) = (m ((c : Thread nD τ).loc main_arg29) : FVec Ideal S128 .f32) (ix1 j) := by
  blk_point [iblk, V, idx_out t]

/-! The host's arrangement of a layer's parameters. -/

/-- Two matrices side by side: the left one. -/
theorem wide_lo (a b : FVec Ideal S512x512 .f32) (k j : Fin 512) :
    concatenate S512x1024 1 [⟨S512x512, a⟩, ⟨S512x512, b⟩] concatenates_S512x512_S512x512_S512x1024_d1 (ix2 k (j.castLE (by decide))) = a (ix2 k j) := by
  pointwise
  exact dif_pos j.isLt

/-- The right one. -/
theorem wide_hi (a b : FVec Ideal S512x512 .f32) (k j : Fin 512) :
    concatenate S512x1024 1 [⟨S512x512, a⟩, ⟨S512x512, b⟩] concatenates_S512x512_S512x512_S512x1024_d1 (ix2 k (j.natAdd 512)) = b (ix2 k j) := by
  pointwise
  refine (dif_neg (by show ¬ 512 + j.val < 512; omega)).trans (congrArg (fun i => b (ix2 k i)) (Fin.ext ?_))
  show 512 + j.val - 512 = j.val
  omega

/-- Two vectors side by side: the left one. -/
theorem long_lo (a b : FVec Ideal S512 .f32) (j : Fin 512) :
    broadcastInDim S1x1024 ![1] bcast_S1024_S1x1024_1 (concatenate S1024 0 [⟨S512, a⟩, ⟨S512, b⟩] concatenates_S512_S512_S1024_d0) (ix2 0 (j.castLE (by decide))) = a (ix1 j) := by
  pointwise
  exact dif_pos j.isLt

/-- The right one. -/
theorem long_hi (a b : FVec Ideal S512 .f32) (j : Fin 512) :
    broadcastInDim S1x1024 ![1] bcast_S1024_S1x1024_1 (concatenate S1024 0 [⟨S512, a⟩, ⟨S512, b⟩] concatenates_S512_S512_S1024_d0) (ix2 0 (j.natAdd 512)) = b (ix1 j) := by
  pointwise
  refine (dif_neg (by show ¬ 512 + j.val < 512; omega)).trans (congrArg (fun i => b (ix1 i)) (Fin.ext ?_))
  show 512 + j.val - 512 = j.val
  omega

/-- The attention vectors of the heads on the block diagonal. -/
theorem diag_at (a : FVec Ideal S4x128 .f32) (j : Fin 512) (hd : Fin 4) :
    a (ix2 ⟨j.val / 128, by omega⟩ ⟨j.val % 128, Nat.mod_lt _ (by decide)⟩) * Ideal.ofBits .f32 (lit0 (S512x4.rowMajor (ix2 j hd)))
      = if headOf j = hd then a (ix2 hd ⟨j.val % 128, Nat.mod_lt _ (by decide)⟩) else 0 := by
  rw [table_val, mul_ite, mul_one, mul_zero]
  split
  · next h =>
    subst h
    rfl
  · rfl

/-- The first layer's blocks hold its parameters. -/
theorem first_reads (c : Dev nD) (t : Fin cfg0.N) :
    LayerReads (iblk m c 7 t) (iblk m c 8 t) (iblk m c 9 t) (iblk m c 10 t) (iblk m c 11 t) (iblk m c 12 t) (iblk m c 13 t) (iblk m c 14 t)
      (first m c) := by
  have hW : ∀ k i, (iblk m c 7 t : FVec Ideal S512x1024 .f32) (ix2 k i) = (V m c main_v1 : FVec Ideal S512x1024 .f32) (ix2 k i) := fun k i => by
    blk_point [iblk, idx_first t]
  have hb : ∀ i, (iblk m c 8 t : FVec Ideal S1x1024 .f32) (ix2 0 i) = (V m c main_v4 : FVec Ideal S1x1024 .f32) (ix2 0 i) := fun i => by
    blk_point [iblk, idx_first t]
  have hA : ∀ j hd, (iblk m c 10 t : FVec Ideal S512x4 .f32) (ix2 j hd) = (V m c main_v10 : FVec Ideal S512x4 .f32) (ix2 j hd) := fun j hd => by
    blk_point [iblk, idx_first t]
  have hS : ∀ i j, (iblk m c 11 t : FVec Ideal S4x512 .f32) (ix2 i j) = (V m c main_v15 : FVec Ideal S4x512 .f32) (ix2 i j) := fun i j => by
    blk_point [iblk, idx_first t]
  refine ⟨fun k j => (hW _ _).trans ?_, fun j => (hb _).trans ?_, fun k j => (hW _ _).trans ?_, fun j => (hb _).trans ?_, fun k j => ?_,
    fun j hd => (hA _ _).trans ?_, fun i j => (hS _ _).trans ?_, fun j => ?_, fun j => ?_, fun j => ?_⟩
  · entry_read
    exact wide_lo _ _ k j
  · entry_read
    exact long_lo _ _ j
  · entry_read
    exact wide_hi _ _ k j
  · entry_read
    exact long_hi _ _ j
  · show (iblk m c 9 t : FVec Ideal S4x512 .f32) (ix2 k j) = (m ((c : Thread nD τ).loc main_arg12) : FVec Ideal S4x512 .f32) (ix2 k j)
    blk_point [iblk, V, idx_first t]
  · entry_read
    pointwise
    exact diag_at _ j hd
  · entry_read
    pointwise
    exact table_val j i
  · show (iblk m c 12 t : FVec Ideal S1x512 .f32) (ix2 0 j) = (m ((c : Thread nD τ).loc main_arg14) : FVec Ideal S512 .f32) (ix1 j)
    blk_point [iblk, V, idx_first t]
  · show (iblk m c 13 t : FVec Ideal S1x512 .f32) (ix2 0 j) = (m ((c : Thread nD τ).loc main_arg15) : FVec Ideal S512 .f32) (ix1 j)
    blk_point [iblk, V, idx_first t]
  · show (iblk m c 14 t : FVec Ideal S1x512 .f32) (ix2 0 j) = (m ((c : Thread nD τ).loc main_arg16) : FVec Ideal S512 .f32) (ix1 j)
    blk_point [iblk, V, idx_first t]

/-- The second layer's blocks hold its parameters. -/
theorem second_reads (c : Dev nD) (t : Fin cfg0.N) :
    LayerReads (iblk m c 15 t) (iblk m c 16 t) (iblk m c 17 t) (iblk m c 18 t) (iblk m c 19 t) (iblk m c 20 t) (iblk m c 21 t) (iblk m c 22 t)
      (second m c) := by
  have hW : ∀ k i, (iblk m c 15 t : FVec Ideal S512x1024 .f32) (ix2 k i) = (V m c main_v2 : FVec Ideal S512x1024 .f32) (ix2 k i) := fun k i => by
    blk_point [iblk, idx_second t]
  have hb : ∀ i, (iblk m c 16 t : FVec Ideal S1x1024 .f32) (ix2 0 i) = (V m c main_v6 : FVec Ideal S1x1024 .f32) (ix2 0 i) := fun i => by
    blk_point [iblk, idx_second t]
  have hA : ∀ j hd, (iblk m c 18 t : FVec Ideal S512x4 .f32) (ix2 j hd) = (V m c main_v14 : FVec Ideal S512x4 .f32) (ix2 j hd) := fun j hd => by
    blk_point [iblk, idx_second t]
  have hS : ∀ i j, (iblk m c 19 t : FVec Ideal S4x512 .f32) (ix2 i j) = (V m c main_v15 : FVec Ideal S4x512 .f32) (ix2 i j) := fun i j => by
    blk_point [iblk, idx_second t]
  refine ⟨fun k j => (hW _ _).trans ?_, fun j => (hb _).trans ?_, fun k j => (hW _ _).trans ?_, fun j => (hb _).trans ?_, fun k j => ?_,
    fun j hd => (hA _ _).trans ?_, fun i j => (hS _ _).trans ?_, fun j => ?_, fun j => ?_, fun j => ?_⟩
  · entry_read
    exact wide_lo _ _ k j
  · entry_read
    exact long_lo _ _ j
  · entry_read
    exact wide_hi _ _ k j
  · entry_read
    exact long_hi _ _ j
  · show (iblk m c 17 t : FVec Ideal S4x512 .f32) (ix2 k j) = (m ((c : Thread nD τ).loc main_arg21) : FVec Ideal S4x512 .f32) (ix2 k j)
    blk_point [iblk, V, idx_second t]
  · entry_read
    pointwise
    exact diag_at _ j hd
  · entry_read
    pointwise
    exact table_val j i
  · show (iblk m c 20 t : FVec Ideal S1x512 .f32) (ix2 0 j) = (m ((c : Thread nD τ).loc main_arg23) : FVec Ideal S512 .f32) (ix1 j)
    blk_point [iblk, V, idx_second t]
  · show (iblk m c 21 t : FVec Ideal S1x512 .f32) (ix2 0 j) = (m ((c : Thread nD τ).loc main_arg24) : FVec Ideal S512 .f32) (ix1 j)
    blk_point [iblk, V, idx_second t]
  · show (iblk m c 22 t : FVec Ideal S1x512 .f32) (ix2 0 j) = (m ((c : Thread nD τ).loc main_arg25) : FVec Ideal S512 .f32) (ix1 j)
    blk_point [iblk, V, idx_second t]

end Cert.KerValue

end
-- ==== Proof.KerFinal.lean ====
/- The kernel's result array after the run. -/
module

public import proofs.«01_k».proof.Proof.KerValue
public import proofs.«01_k».proof.Proof.KernelIdealRun
public import proofs.«01_k».proof.Proof.KerTile
public import proofs.«01_k».proof.Proof.Params
public import Idealize.ShloMosaic.Lib.Claim
public import Idealize.ShloMosaic.Lib.Pipeline.ValueKit

@[expose] public section

set_option maxRecDepth 16384

noncomputable section

namespace Cert.KerValue

open Idealize.ShloMosaic Idealize.ShloMosaic.TcCoe Cert.KernelIdeal Cert.KernelIdeal.Gen Cert.KernelIdeal.Body Cert.Reals Cert.Spec Cert.KerTile

variable (m : (ℓ : Loc nD τ sig) → Buf (Elt Ideal) ℓ)

set_option maxHeartbeats 2000000 in
/-- The blocks of step `t` hold the network and the step's graphs. -/
theorem reads (c : Dev nD) (t : Fin cfg0.N) :
    Reads (ins m c t) (net m c) fun q => Params.input (m ((c : Thread nD τ).loc main_arg0)) (m ((c : Thread nD τ).loc main_arg1)) (graph t q) :=
  Reads.mk (input_at m c t) (types_at m c t) (E_at m c t) (W_at m c t) (b_at m c t) (g_at m c t) (beta_at m c t) (first_reads m c t) (second_reads m c t)
    (Wo_at m c t) (bo_at m c t) (go_at m c t) (betao_at m c t)

/-- The result array after the run is the network's output of every graph. -/
theorem final (c : Dev nD) : (dats m 0 c).arrAt 27 (cfgs 0).N
    = Params.result (net m c) (m ((c : Thread nD τ).loc main_arg0)) (m ((c : Thread nD τ).loc main_arg1)) := by
  refine (dats m 0 c).arrAt_eq_of_covers 27 _ (by decide +kernel) fun t _ y => ?_
  blk_simp
  rw [after0_27]
  obtain ⟨q, o, rfl⟩ : ∃ (q : Fin 16) (o : Fin 128), y = ix2 q o := ⟨_, _, eq_ix2 y⟩
  refine (outBlock_at _ q o).trans ((stored_at _ (reads m c t) q o).trans ?_)
  have hi : (win0_27.blk t).view.emb (ix2 q o) = ix2 (graph t q) o := by
    unfold graph
    blk_ext [idx t]
  rw [hi]
  rfl

end Cert.KerValue

end
-- ==== Proof.RefValue.lean ====
/- The reference's result is the network's output of every graph. -/
module

public import proofs.«01_k».proof.Proof.Params
public import proofs.«01_k».proof.Proof.Gen.ReferenceIdeal.Run
public import Idealize.ShloMosaic.Lib.Tactic.CleanTypes

@[expose] public section

set_option maxRecDepth 16384

noncomputable section

namespace Cert.RefValue

open Idealize.ShloMosaic Idealize.ShloMosaic.TcCoe Cert.ReferenceIdeal Cert.ReferenceIdeal.Gen Cert.ReferenceIdeal.Value Cert.Reals Cert.Edges Cert.Spec Cert.RefLayer

variable (V0 : Valuation τ sig (Elt Ideal))

/-- An argument array. -/
abbrev arr (r : Ref sig .tc) : (Proc.devRef .tc r : DevRef τ sig).ty.Contents (Elt Ideal) := V0 (Proc.devRef .tc r)

/-- The first layer's parameters. -/
def first : Layer :=
  params (arr V0 main_arg8) (arr V0 main_arg9) (arr V0 main_arg10) (arr V0 main_arg11) (arr V0 main_arg12) (arr V0 main_arg13) (arr V0 main_arg14) (arr V0 main_arg15) (arr V0 main_arg16)

/-- The second layer's parameters. -/
def second : Layer :=
  params (arr V0 main_arg17) (arr V0 main_arg18) (arr V0 main_arg19) (arr V0 main_arg20) (arr V0 main_arg21) (arr V0 main_arg22) (arr V0 main_arg23) (arr V0 main_arg24) (arr V0 main_arg25)

/-- The network of the reference's arguments. -/
def net : Net :=
  Params.net (arr V0 main_arg2) (arr V0 main_arg3) (arr V0 main_arg4) (arr V0 main_arg5) (arr V0 main_arg6) (arr V0 main_arg7) (first V0) (second V0)
    (arr V0 main_arg26) (arr V0 main_arg27) (arr V0 main_arg28) (arr V0 main_arg29)

/-- The input of graph `b`. -/
abbrev input (b : Fin 256) : Fin 80 → Fin 256 → EReal := Params.input (arr V0 main_arg0) (arr V0 main_arg1) b

/-- The place of entry `e` of a table of 308 entries. -/
theorem row308 (e : Fin 308) : S308.rowMajor (ix1 e) = e :=
  Fin.ext ((by decide +kernel : ∀ e : Fin 308, (S308.rowMajor (ix1 e)).val = e.val) e)

/-- The place of entry `e` of a table of 388 entries. -/
theorem row388 (e : Fin 388) : S388.rowMajor (ix1 e) = e :=
  Fin.ext ((by decide +kernel : ∀ e : Fin 388, (S388.rowMajor (ix1 e)).val = e.val) e)

/-- The sources' table of the program. -/
theorem src_at (e : Fin 388) : res_main_c_1 V0 (ix1 e) = BitVec.ofNat 32 (src e) :=
  (congrArg lit1 (row388 e)).trans (lit1_src e)

/-- The targets' table. -/
theorem dst_at (e : Fin 388) : res_main_c_3 V0 (ix1 e) = BitVec.ofNat 32 (dst e) :=
  (congrArg lit2 (row388 e)).trans (lit2_dst e)

/-- The attributes of an edge between two nodes. -/
theorem kind_at (e : Fin 308) (c : Fin 4) : res_main_v50 V0 (ix2 e c) = (net V0).E (kind (step (e.castLE (by decide)))) c := by
  unfold res_main_v50
  refine Routing.gather_kinds _ _ e c _ ?_
  refine Eq.trans ?_ (lit0_kind e)
  refine Eq.trans ?_ (congrArg lit0 (row308 e))
  clean_types
  pointwise [res_main_c]

/-- The attributes of every edge. -/
theorem attr_at (e : Fin 388) (c : Fin 4) : res_main_v58 V0 (ix2 e c) = attr (net V0).E (step e) c := by
  have hloop := (edge_spec (step e) (dst e) (edge_facts e).1).2.2.2
  rw [(edge_facts e).2] at hloop
  have hread : res_main_v58 V0 (ix2 e c) = if h : e.val < 308 then res_main_v50 V0 (ix2 ⟨e.val, h⟩ c)
      else Ideal.div (∑ e, res_main_v50 V0 (ix2 e c)) (word 0x439A0000#32) := by
    unfold res_main_v58
    clean_types
    pointwise
  rw [hread]
  unfold attr
  by_cases he : e.val < 308
  · rw [dif_pos he, if_neg fun h => absurd (hloop.2 h) (by omega)]
    exact kind_at V0 ⟨e.val, he⟩ c
  · rw [dif_neg he, if_pos (hloop.1 (by omega)), word_308, Ideal.div_coe (by norm_num)]
    simp only [kind_at]
    rw [sum_kinds fun k => (net V0).E k c, one_div]

/-- The input projection. -/
theorem proj_at (b : Fin 256) (n : Fin 80) (j : Fin 512) : res_main_v14 V0 (ix3 b n j) = proj (net V0) (input V0 b) n j := by
  have hread : ∀ (x : FVec Ideal S256x30x256 .f32) (y : FVec Ideal S256x50x256 .f32) (t : FVec Ideal S2x256 .f32)
      (w : FVec Ideal S256x512 .f32) (p : FVec Ideal S512 .f32), x = arr V0 main_arg0 → y = arr V0 main_arg1 → t = arr V0 main_arg2 →
      w = arr V0 main_arg4 → p = arr V0 main_arg5 → res_main_v14 V0 (ix3 b n j) = ∑ k, (if h : n.val < 30
      then x (ix3 b ⟨n.val, h⟩ k) + t (ix2 0 k) else y (ix3 b ⟨n.val - 30, by omega⟩ k) + t (ix2 1 k)) * w (ix2 k j) + p (ix1 j) := by
    rintro _ _ _ _ _ rfl rfl rfl rfl rfl
    unfold res_main_v14
    clean_types
    pointwise
  rw [hread _ _ _ _ _ rfl rfl rfl rfl rfl]
  unfold proj input Params.input
  by_cases h : n.val < 30
  · simp only [dif_pos h, if_pos h]
    rfl
  · simp only [dif_neg h, if_neg h]
    rfl

/-- The reference's input features are the norm and gelu of the projection. -/
theorem v45_eq : res_main_v45 V0 = activated (normed (res_main_v14 V0) (arr V0 main_arg6) (arr V0 main_arg7)) := rfl

/-- The first attention layer with its residual, in the steps of `RefLayer`. -/
theorem v142_eq : res_main_v142 V0 = collect (exps (scores (message (split (res_main_v45 V0) (arr V0 main_arg8) (arr V0 main_arg9)) (split (res_main_v45 V0) (arr V0 main_arg10) (arr V0 main_arg11))
      (res_main_v58 V0) (arr V0 main_arg12) (res_main_c_1 V0) (res_main_c_3 V0)) (arr V0 main_arg13))
    (greatest (scores (message (split (res_main_v45 V0) (arr V0 main_arg8) (arr V0 main_arg9)) (split (res_main_v45 V0) (arr V0 main_arg10) (arr V0 main_arg11))
      (res_main_v58 V0) (arr V0 main_arg12) (res_main_c_1 V0) (res_main_c_3 V0)) (arr V0 main_arg13)) (res_main_c_3 V0)) (res_main_c_3 V0))
    (split (res_main_v45 V0) (arr V0 main_arg8) (arr V0 main_arg9)) (res_main_c_1 V0) (res_main_c_3 V0) (arr V0 main_arg14) (res_main_v45 V0) := rfl

/-- The features between the two attention layers. -/
theorem v173_eq : res_main_v173 V0 = activated (normed (res_main_v142 V0) (arr V0 main_arg15) (arr V0 main_arg16)) := rfl

/-- The second attention layer with its residual, in the same steps. -/
theorem v257_eq : res_main_v257 V0 = collect (exps (scores (message (split (res_main_v173 V0) (arr V0 main_arg17) (arr V0 main_arg18)) (split (res_main_v173 V0) (arr V0 main_arg19) (arr V0 main_arg20))
      (res_main_v58 V0) (arr V0 main_arg21) (res_main_c_1 V0) (res_main_c_3 V0)) (arr V0 main_arg22))
    (greatest (scores (message (split (res_main_v173 V0) (arr V0 main_arg17) (arr V0 main_arg18)) (split (res_main_v173 V0) (arr V0 main_arg19) (arr V0 main_arg20))
      (res_main_v58 V0) (arr V0 main_arg21) (res_main_c_1 V0) (res_main_c_3 V0)) (arr V0 main_arg22)) (res_main_c_3 V0)) (res_main_c_3 V0))
    (split (res_main_v173 V0) (arr V0 main_arg17) (arr V0 main_arg18)) (res_main_c_1 V0) (res_main_c_3 V0) (arr V0 main_arg23) (res_main_v173 V0) := rfl

/-- The pooled features are the norm of the second attention layer. -/
theorem v281_eq : res_main_v281 V0 = normed (res_main_v257 V0) (arr V0 main_arg24) (arr V0 main_arg25) := rfl

/-- The features the first attention layer reads. -/
theorem feat0_at (b : Fin 256) : nodes (res_main_v45 V0) b = feat0 (net V0) (input V0 b) := funext fun n => funext fun j => by
  rw [v45_eq]
  refine (activated_at _ b n j).trans (congrArg gelu ((normed_at _ _ _ b n j).trans ?_))
  rw [show nodes (res_main_v14 V0) b n = proj (net V0) (input V0 b) n from funext fun j => proj_at V0 b n j]
  rfl

/-- The features the second attention layer reads. -/
theorem feat1_at (b : Fin 256) : nodes (res_main_v173 V0) b = feat1 (net V0) (input V0 b) := funext fun n => funext fun j => by
  rw [v173_eq]
  refine (activated_at _ b n j).trans (congrArg gelu ((normed_at _ _ _ b n j).trans ?_))
  rw [show nodes (res_main_v142 V0) b n = gat (first V0) (net V0).E (nodes (res_main_v45 V0) b) n from funext fun j => by
    rw [v142_eq]
    exact collect_at _ _ _ _ _ _ _ _ _ _ _ _ _ _ _ rfl (src_at V0) (dst_at V0) (attr_at V0) b n j]
  rw [feat0_at]
  rfl

/-- The features that are pooled. -/
theorem feat2_at (b : Fin 256) : nodes (res_main_v281 V0) b = feat2 (net V0) (input V0 b) := funext fun n => funext fun j => by
  rw [v281_eq]
  refine (normed_at _ _ _ b n j).trans ?_
  rw [show nodes (res_main_v257 V0) b n = gat (second V0) (net V0).E (nodes (res_main_v173 V0) b) n from funext fun j => by
    rw [v257_eq]
    exact collect_at _ _ _ _ _ _ _ _ _ _ _ _ _ _ _ rfl (src_at V0) (dst_at V0) (attr_at V0) b n j]
  rw [feat1_at]
  rfl

/-- The output projection. -/
theorem pooled_at (b : Fin 256) (o : Fin 128) : res_main_v290 V0 (ix2 b o) = pooled (net V0) (feat2 (net V0) (input V0 b)) o := by
  rw [← feat2_at]
  unfold res_main_v290
  clean_types
  pointwise
  rfl

/-- The norm over the outputs. -/
theorem outNorm_at (b : Fin 256) (o : Fin 128) : res_main_v314 V0 (ix2 b o)
    = norm (word 0x43000000#32) (pooled (net V0) (feat2 (net V0) (input V0 b))) (net V0).go (net V0).betao o := by
  rw [show pooled (net V0) (feat2 (net V0) (input V0 b)) = fun o => res_main_v290 V0 (ix2 b o) from funext fun o => (pooled_at V0 b o).symm]
  unfold res_main_v314 res_main_v296 res_main_v294
  clean_types
  pointwise
  rfl

/-- The reference's result. -/
theorem result_eq : mulf (mulf (broadcastInDim S256x128 ![] bcast_S_S256x128 (constant S_ .f32 0x3F000000#32)) (res_main_v314 V0))
      (Host.erfc (mulf (Host.negf (res_main_v314 V0)) (broadcastInDim S256x128 ![] bcast_S_S256x128 (constant S_ .f32 0x3F3504F3#32))))
    = Params.result (net V0) (arr V0 main_arg0) (arr V0 main_arg1) := by
  funext i
  obtain ⟨b, o, rfl⟩ : ∃ (b : Fin 256) (o : Fin 128), i = ix2 b o := ⟨_, _, eq_ix2 i⟩
  refine Eq.trans ?_ (congrArg gelu (outNorm_at V0 b o))
  clean_types
  pointwise
  rfl

end Cert.RefValue

end
-- ==== Proof.Values.lean ====
/- The value claim: both programs end with the network's output of every graph in their result array. -/
module

public import proofs.«01_k».proof.Defs
public import proofs.«01_k».proof.Proof.KernelIdealRun
public import proofs.«01_k».proof.Proof.KerFinal
public import proofs.«01_k».proof.Proof.RefValue

@[expose] public section

noncomputable section

namespace Cert.Proof

open Idealize.ShloMosaic Idealize.ShloMosaic.TcCoe Idealize.SL.Sem

/-- The result both programs end with, of the kernel's arguments on core `c`. -/
def value (m : (ℓ : Loc KernelIdeal.nD KernelIdeal.τ KernelIdeal.sig) → Buf (Elt Ideal) ℓ) (c : Dev KernelIdeal.nD) :
    Buf (Elt Ideal) ((c.tc : Thread KernelIdeal.nD KernelIdeal.τ).loc KernelIdeal.main_v28) :=
  Params.result (KerValue.net m c) (m ((c.tc : Thread KernelIdeal.nD KernelIdeal.τ).loc KernelIdeal.main_arg0))
    (m ((c.tc : Thread KernelIdeal.nD KernelIdeal.τ).loc KernelIdeal.main_arg1))

/-- The idealized kernel ends with it. -/
theorem value_kernel (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ fun r => ∀ c : Dev KernelIdeal.nD,
      r.2.mem ((c.tc : Thread KernelIdeal.nD KernelIdeal.τ).loc KernelIdeal.main_v28) = value m c :=
  (θ_run KernelIdeal.defs _ _).mono (fun r h c => by
    have hw := (h c).1 27
    rw [KerValue.final m c] at hw
    exact hw) (KernelIdeal.Body.run_main m g)

/-- Launched on the same arguments, the two programs end with equal results and leave their arguments unchanged. -/
theorem algebraic : Cert.algebraic_KernelIdeal_ReferenceIdeal := by
  intro m g m' g' _ hagree
  refine ⟨value m, ?_, ?_⟩
  · exact (θ_run KernelIdeal.defs _ _).mono (fun r h c => ⟨h.1 c, h.2 c⟩)
      (θ_run_and (value_kernel m g)
        (KernelIdeal.Gen.frame_of m g (KernelIdeal.Body.dats m) (KernelIdeal.Body.A_eq m) (KernelIdeal.Body.run_main m g)))
  · refine (θ_run Cert.ReferenceIdeal.defs _ _).mono (fun r h c => ⟨((h c).1.trans (RefValue.result_eq _)).trans ?_, (h c).2⟩)
      (Cert.ReferenceIdeal.Value.run (F := Ideal) m' g')
    obtain ⟨h0, h1, h2, h3, h4, h5, h6, h7, h8, h9, h10, h11, h12, h13, h14, h15, h16, h17, h18, h19, h20, h21, h22, h23, h24, h25, h26, h27,
      h28, h29⟩ := hagree c
    have hfirst : RefValue.first (StableHlo.launchContents m' c) = KerValue.first m c := by
      unfold RefValue.first KerValue.first
      congr 1
    have hsecond : RefValue.second (StableHlo.launchContents m' c) = KerValue.second m c := by
      unfold RefValue.second KerValue.second
      congr 1
    have hnet : RefValue.net (StableHlo.launchContents m' c) = KerValue.net m c := by
      unfold RefValue.net KerValue.net
      congr 1
    exact congr (congr (congrArg Params.result hnet) h0) h1

end Cert.Proof

end
-- ==== Proof.lean ====
/- The claim: three frames, the idealization's ledger, and the values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
